-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x2048 : Shape := ⟨2, ![4096, 2048]⟩
abbrev S3x512x2048 : Shape := ⟨3, ![3, 512, 2048]⟩
abbrev S4x2x512x2048 : Shape := ⟨4, ![4, 2, 512, 2048]⟩
abbrev S6x4 : Shape := ⟨2, ![6, 4]⟩
abbrev S4x4x2 : Shape := ⟨3, ![4, 4, 2]⟩
abbrev S1x1x1 : Shape := ⟨3, ![1, 1, 1]⟩
abbrev S_ : Shape := ⟨0, ![]⟩
abbrev S1x1x128x2048 : Shape := ⟨4, ![1, 1, 128, 2048]⟩
abbrev S128x2048 : Shape := ⟨2, ![128, 2048]⟩
abbrev S1x128x2048 : Shape := ⟨3, ![1, 128, 2048]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S4096x2048, .bf16⟩
  | .local _ .vmem, ⟨0, _⟩ => ⟨S4096x2048, .bf16⟩
  | .local _ .vmem, ⟨1, _⟩ => ⟨S3x512x2048, .bf16⟩
  | .local _ .vmem, ⟨2, _⟩ => ⟨S3x512x2048, .bf16⟩
  | .local _ .vmem, ⟨3, _⟩ => ⟨S4x2x512x2048, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 160 → Bool
  | ⟨i, _⟩ => dmaSemScopedAt i

abbrev sig : RefSig :=
  (ofTc nBuf bufTy 1 160 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_5 : BitVec 32) : Fin 3 → Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v8 : BitVec 32 := Scalar.muli v2 c512_i32
  let v9 : BitVec 32 := Scalar.addi c0_i32 v8
  let v10 : BitVec 32 := Scalar.addi v9 c0_i32_5
  let c0_i32_13 : BitVec 32 := 0#32
  ![0, v10.toNat, 0]
def k0_off2 (d0 : Dev nD) (c0_i32_93 : BitVec 32) (c0_i32_99 : BitVec 32) : Fin 3 → Nat :=
  let c0_i32_100 : BitVec 32 := 0#32
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v80 : BitVec 32 := Scalar.subi v2 c0_i32_93
  let c1_i32_94 : BitVec 32 := 1#32
  let v81 : BitVec 32 := Scalar.subi v80 c1_i32_94
  let c4_i32_95 : BitVec 32 := 4#32
  let v82 : BitVec 32 := Scalar.addi v81 c4_i32_95
  let c4_i32_96 : BitVec 32 := 4#32
  let v83 : BitVec 32 := Scalar.remsi v82 c4_i32_96
  let c512_i32_97 : BitVec 32 := 512#32
  let v84 : BitVec 32 := Scalar.muli v83 c512_i32_97
  let v85 : BitVec 32 := Scalar.addi c0_i32_98 v84
  let v86 : BitVec 32 := Scalar.addi v85 c0_i32_99
  let c0_i32_108 : BitVec 32 := 0#32
  ![0, v86.toNat, 0]
def k0_off3 (d0 : Dev nD) (c0_i32_109 : BitVec 32) (c0_i32_114 : BitVec 32) : Fin 3 → Nat :=
  let c0_i32_115 : BitVec 32 := 0#32
  let c2048_i32_113 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v93 : BitVec 32 := Scalar.addi v2 c0_i32_109
  let c1_i32_110 : BitVec 32 := 1#32
  let v94 : BitVec 32 := Scalar.addi v93 c1_i32_110
  let c4_i32_111 : BitVec 32 := 4#32
  let v95 : BitVec 32 := Scalar.remsi v94 c4_i32_111
  let c512_i32_112 : BitVec 32 := 512#32
  let v96 : BitVec 32 := Scalar.muli v95 c512_i32_112
  let v97 : BitVec 32 := Scalar.addi c2048_i32_113 v96
  let v98 : BitVec 32 := Scalar.addi v97 c0_i32_114
  let c0_i32_123 : BitVec 32 := 0#32
  ![0, v98.toNat, 0]
def k0_dev1 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_466 : BitVec 32 := 1#32
  let v381 : BitVec 32 := Scalar.muli v7 c1_i32_466
  let v382 : BitVec 32 := Scalar.addi c0_i32_467 v381
  v382.toNat
def k0_dev2 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_469 : BitVec 32 := 1#32
  let v383 : BitVec 32 := Scalar.muli v4 c1_i32_469
  let v384 : BitVec 32 := Scalar.addi c0_i32_470 v383
  v384.toNat
def k0_off4 (d0 : Dev nD) (c0_i32_485 : BitVec 32) (c0_i32_486 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_484 : BitVec 32 := 512#32
  let v394 : BitVec 32 := Scalar.muli v2 c512_i32_484
  let v395 : BitVec 32 := Scalar.addi c0_i32_485 v394
  let v396 : BitVec 32 := Scalar.addi v395 c0_i32_486
  let v400 : Index := Scalar.indexCast v396
  let c0_489 : Index := 0#32
  ![v400.toNat, 0]
def k0_off5 (d0 : Dev nD) (c0_i32_491 : BitVec 32) (c0_i32_492 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_490 : BitVec 32 := 512#32
  let v404 : BitVec 32 := Scalar.muli v2 c512_i32_490
  let v405 : BitVec 32 := Scalar.addi c0_i32_491 v404
  let v406 : BitVec 32 := Scalar.addi v405 c0_i32_492
  let c0_i32_502 : BitVec 32 := 0#32
  ![v406.toNat, 0]
def k0_dev3 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_498 : BitVec 32 := 1#32
  let v407 : BitVec 32 := Scalar.muli v4 c1_i32_498
  let v408 : BitVec 32 := Scalar.addi c0_i32_499 v407
  v408.toNat
def k0_dev4 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_530 : BitVec 32 := 1#32
  let v438 : BitVec 32 := Scalar.muli v7 c1_i32_530
  let v439 : BitVec 32 := Scalar.addi c0_i32_531 v438
  v439.toNat
def k0_dev5 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_562 : BitVec 32 := 1#32
  let v469 : BitVec 32 := Scalar.muli v4 c1_i32_562
  let v470 : BitVec 32 := Scalar.addi c0_i32_563 v469
  v470.toNat
def k0_dev6 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_595 : BitVec 32 := 1#32
  let v500 : BitVec 32 := Scalar.muli v7 c1_i32_595
  let v501 : BitVec 32 := Scalar.addi c0_i32_596 v500
  v501.toNat
def k0_dev7 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_627 : BitVec 32 := 1#32
  let v531 : BitVec 32 := Scalar.muli v4 c1_i32_627
  let v532 : BitVec 32 := Scalar.addi c0_i32_628 v531
  v532.toNat
def k0_dev8 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_660 : BitVec 32 := 1#32
  let v562 : BitVec 32 := Scalar.muli v7 c1_i32_660
  let v563 : BitVec 32 := Scalar.addi c0_i32_661 v562
  v563.toNat
def k0_dev9 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_692 : BitVec 32 := 1#32
  let v593 : BitVec 32 := Scalar.muli v4 c1_i32_692
  let v594 : BitVec 32 := Scalar.addi c0_i32_693 v593
  v594.toNat
def k0_dev10 (d0 : Dev nD) : Nat :=
  let c0_i32_726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_725 : BitVec 32 := 1#32
  let v624 : BitVec 32 := Scalar.muli v7 c1_i32_725
  let v625 : BitVec 32 := Scalar.addi c0_i32_726 v624
  v625.toNat
def k0_off6 (d0 : Dev nD) (c0_i32_730 : BitVec 32) (c0_i32_759 : BitVec 32) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v633 : BitVec 32 := Scalar.subi v2 c0_i32_730
  let c1_i32_731 : BitVec 32 := 1#32
  let v634 : BitVec 32 := Scalar.subi v633 c1_i32_731
  let c4_i32_732 : BitVec 32 := 4#32
  let v635 : BitVec 32 := Scalar.addi v634 c4_i32_732
  let c4_i32_733 : BitVec 32 := 4#32
  let v636 : BitVec 32 := Scalar.remsi v635 c4_i32_733
  let c512_i32_757 : BitVec 32 := 512#32
  let v653 : BitVec 32 := Scalar.muli v636 c512_i32_757
  let v654 : BitVec 32 := Scalar.addi c0_i32_758 v653
  let v655 : BitVec 32 := Scalar.addi v654 c0_i32_759
  let v662 : Index := Scalar.indexCast v655
  let c0_767 : Index := 0#32
  ![v662.toNat, 0]
def k0_off7 (d0 : Dev nD) (c0_i32_730 : BitVec 32) (c0_i32_770 : BitVec 32) : Fin 2 → Nat :=
  let c0_i32_769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v633 : BitVec 32 := Scalar.subi v2 c0_i32_730
  let c1_i32_731 : BitVec 32 := 1#32
  let v634 : BitVec 32 := Scalar.subi v633 c1_i32_731
  let c4_i32_732 : BitVec 32 := 4#32
  let v635 : BitVec 32 := Scalar.addi v634 c4_i32_732
  let c4_i32_733 : BitVec 32 := 4#32
  let v636 : BitVec 32 := Scalar.remsi v635 c4_i32_733
  let c512_i32_768 : BitVec 32 := 512#32
  let v666 : BitVec 32 := Scalar.muli v636 c512_i32_768
  let v667 : BitVec 32 := Scalar.addi c0_i32_769 v666
  let v668 : BitVec 32 := Scalar.addi v667 c0_i32_770
  let c0_i32_780 : BitVec 32 := 0#32
  ![v668.toNat, 0]
def k0_dev11 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_776 : BitVec 32 := 1#32
  let v669 : BitVec 32 := Scalar.muli v4 c1_i32_776
  let v670 : BitVec 32 := Scalar.addi c0_i32_777 v669
  v670.toNat
def k0_off8 (d0 : Dev nD) (c0_i32_781 : BitVec 32) (c0_i32_809 : BitVec 32) : Fin 2 → Nat :=
  let c2048_i32_808 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v678 : BitVec 32 := Scalar.addi v2 c0_i32_781
  let c1_i32_782 : BitVec 32 := 1#32
  let v679 : BitVec 32 := Scalar.addi v678 c1_i32_782
  let c4_i32_783 : BitVec 32 := 4#32
  let v680 : BitVec 32 := Scalar.remsi v679 c4_i32_783
  let c512_i32_807 : BitVec 32 := 512#32
  let v697 : BitVec 32 := Scalar.muli v680 c512_i32_807
  let v698 : BitVec 32 := Scalar.addi c2048_i32_808 v697
  let v699 : BitVec 32 := Scalar.addi v698 c0_i32_809
  let v706 : Index := Scalar.indexCast v699
  let c0_817 : Index := 0#32
  ![v706.toNat, 0]
def k0_off9 (d0 : Dev nD) (c0_i32_781 : BitVec 32) (c0_i32_820 : BitVec 32) : Fin 2 → Nat :=
  let c2048_i32_819 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v678 : BitVec 32 := Scalar.addi v2 c0_i32_781
  let c1_i32_782 : BitVec 32 := 1#32
  let v679 : BitVec 32 := Scalar.addi v678 c1_i32_782
  let c4_i32_783 : BitVec 32 := 4#32
  let v680 : BitVec 32 := Scalar.remsi v679 c4_i32_783
  let c512_i32_818 : BitVec 32 := 512#32
  let v710 : BitVec 32 := Scalar.muli v680 c512_i32_818
  let v711 : BitVec 32 := Scalar.addi c2048_i32_819 v710
  let v712 : BitVec 32 := Scalar.addi v711 c0_i32_820
  let c0_i32_830 : BitVec 32 := 0#32
  ![v712.toNat, 0]
def k0_dev12 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_826 : BitVec 32 := 1#32
  let v713 : BitVec 32 := Scalar.muli v7 c1_i32_826
  let v714 : BitVec 32 := Scalar.addi c0_i32_827 v713
  v714.toNat
def k0_dev13 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_877 : BitVec 32 := 1#32
  let v758 : BitVec 32 := Scalar.muli v4 c1_i32_877
  let v759 : BitVec 32 := Scalar.addi c0_i32_878 v758
  v759.toNat
def k0_dev14 (d0 : Dev nD) : Nat :=
  let c0_i32_927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_926 : BitVec 32 := 1#32
  let v802 : BitVec 32 := Scalar.muli v7 c1_i32_926
  let v803 : BitVec 32 := Scalar.addi c0_i32_927 v802
  v803.toNat
def k0_dev15 (d0 : Dev nD) : Nat :=
  let c0_i32_978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_977 : BitVec 32 := 1#32
  let v847 : BitVec 32 := Scalar.muli v4 c1_i32_977
  let v848 : BitVec 32 := Scalar.addi c0_i32_978 v847
  v848.toNat
def k0_dev16 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1026 : BitVec 32 := 1#32
  let v891 : BitVec 32 := Scalar.muli v7 c1_i32_1026
  let v892 : BitVec 32 := Scalar.addi c0_i32_1027 v891
  v892.toNat
def k0_dev17 (d0 : Dev nD) : Nat :=
  let c0_i32_1078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1077 : BitVec 32 := 1#32
  let v936 : BitVec 32 := Scalar.muli v4 c1_i32_1077
  let v937 : BitVec 32 := Scalar.addi c0_i32_1078 v936
  v937.toNat
def k0_dev18 (d0 : Dev nD) : Nat :=
  let c0_i32_1127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1126 : BitVec 32 := 1#32
  let v980 : BitVec 32 := Scalar.muli v7 c1_i32_1126
  let v981 : BitVec 32 := Scalar.addi c0_i32_1127 v980
  v981.toNat
def k0_dev19 (d0 : Dev nD) : Nat :=
  let c0_i32_1178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1177 : BitVec 32 := 1#32
  let v1025 : BitVec 32 := Scalar.muli v4 c1_i32_1177
  let v1026 : BitVec 32 := Scalar.addi c0_i32_1178 v1025
  v1026.toNat
def k0_dev20 (d0 : Dev nD) : Nat :=
  let c0_i32_1228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1227 : BitVec 32 := 1#32
  let v1069 : BitVec 32 := Scalar.muli v7 c1_i32_1227
  let v1070 : BitVec 32 := Scalar.addi c0_i32_1228 v1069
  v1070.toNat
def k0_dev21 (d0 : Dev nD) : Nat :=
  let c0_i32_1279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1278 : BitVec 32 := 1#32
  let v1114 : BitVec 32 := Scalar.muli v4 c1_i32_1278
  let v1115 : BitVec 32 := Scalar.addi c0_i32_1279 v1114
  v1115.toNat
def k0_dev22 (d0 : Dev nD) : Nat :=
  let c0_i32_1329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1328 : BitVec 32 := 1#32
  let v1158 : BitVec 32 := Scalar.muli v7 c1_i32_1328
  let v1159 : BitVec 32 := Scalar.addi c0_i32_1329 v1158
  v1159.toNat
def k0_dev23 (d0 : Dev nD) : Nat :=
  let c0_i32_1380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1379 : BitVec 32 := 1#32
  let v1203 : BitVec 32 := Scalar.muli v4 c1_i32_1379
  let v1204 : BitVec 32 := Scalar.addi c0_i32_1380 v1203
  v1204.toNat
def k0_dev24 (d0 : Dev nD) : Nat :=
  let c0_i32_1430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1429 : BitVec 32 := 1#32
  let v1247 : BitVec 32 := Scalar.muli v7 c1_i32_1429
  let v1248 : BitVec 32 := Scalar.addi c0_i32_1430 v1247
  v1248.toNat
def k0_dev25 (d0 : Dev nD) : Nat :=
  let c0_i32_1481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1480 : BitVec 32 := 1#32
  let v1292 : BitVec 32 := Scalar.muli v4 c1_i32_1480
  let v1293 : BitVec 32 := Scalar.addi c0_i32_1481 v1292
  v1293.toNat
def k0_dev26 (d0 : Dev nD) : Nat :=
  let c0_i32_1531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1530 : BitVec 32 := 1#32
  let v1336 : BitVec 32 := Scalar.muli v7 c1_i32_1530
  let v1337 : BitVec 32 := Scalar.addi c0_i32_1531 v1336
  v1337.toNat
def k0_dev27 (d0 : Dev nD) : Nat :=
  let c0_i32_1580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1579 : BitVec 32 := 1#32
  let v1381 : BitVec 32 := Scalar.muli v4 c1_i32_1579
  let v1382 : BitVec 32 := Scalar.addi c0_i32_1580 v1381
  v1382.toNat
def k0_dev28 (d0 : Dev nD) : Nat :=
  let c0_i32_1639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1638 : BitVec 32 := 1#32
  let v1434 : BitVec 32 := Scalar.muli v7 c1_i32_1638
  let v1435 : BitVec 32 := Scalar.addi c0_i32_1639 v1434
  v1435.toNat
def k0_dev29 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1698 : BitVec 32 := 1#32
  let v1488 : BitVec 32 := Scalar.muli v4 c1_i32_1698
  let v1489 : BitVec 32 := Scalar.addi c0_i32_1699 v1488
  v1489.toNat
def k0_dev30 (d0 : Dev nD) : Nat :=
  let c0_i32_1758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1757 : BitVec 32 := 1#32
  let v1541 : BitVec 32 := Scalar.muli v7 c1_i32_1757
  let v1542 : BitVec 32 := Scalar.addi c0_i32_1758 v1541
  v1542.toNat
def k0_dev31 (d0 : Dev nD) : Nat :=
  let c0_i32_1818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1817 : BitVec 32 := 1#32
  let v1595 : BitVec 32 := Scalar.muli v4 c1_i32_1817
  let v1596 : BitVec 32 := Scalar.addi c0_i32_1818 v1595
  v1596.toNat
def k0_dev32 (d0 : Dev nD) : Nat :=
  let c0_i32_1877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1876 : BitVec 32 := 1#32
  let v1648 : BitVec 32 := Scalar.muli v7 c1_i32_1876
  let v1649 : BitVec 32 := Scalar.addi c0_i32_1877 v1648
  v1649.toNat
def k0_dev33 (d0 : Dev nD) : Nat :=
  let c0_i32_1937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1936 : BitVec 32 := 1#32
  let v1702 : BitVec 32 := Scalar.muli v4 c1_i32_1936
  let v1703 : BitVec 32 := Scalar.addi c0_i32_1937 v1702
  v1703.toNat
def k0_dev34 (d0 : Dev nD) : Nat :=
  let c0_i32_1996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1995 : BitVec 32 := 1#32
  let v1755 : BitVec 32 := Scalar.muli v7 c1_i32_1995
  let v1756 : BitVec 32 := Scalar.addi c0_i32_1996 v1755
  v1756.toNat
def k0_off10 (d0 : Dev nD) (c0_i32_2010 : BitVec 32) (c0_i32_2015 : BitVec 32) : Fin 2 → Nat :=
  let c0_i32_2014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1773 : BitVec 32 := Scalar.subi v2 c0_i32_2010
  let c4_i32_2011 : BitVec 32 := 4#32
  let v1774 : BitVec 32 := Scalar.addi v1773 c4_i32_2011
  let c4_i32_2012 : BitVec 32 := 4#32
  let v1775 : BitVec 32 := Scalar.remsi v1774 c4_i32_2012
  let c512_i32_2013 : BitVec 32 := 512#32
  let v1776 : BitVec 32 := Scalar.muli v1775 c512_i32_2013
  let v1777 : BitVec 32 := Scalar.addi c0_i32_2014 v1776
  let v1778 : BitVec 32 := Scalar.addi v1777 c0_i32_2015
  let c0_i32_2022 : BitVec 32 := 0#32
  ![v1778.toNat, 0]
def k0_dev35 (d0 : Dev nD) : Nat :=
  let c0_i32_2032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2031 : BitVec 32 := 1#32
  let v1788 : BitVec 32 := Scalar.muli v4 c1_i32_2031
  let v1789 : BitVec 32 := Scalar.addi c0_i32_2032 v1788
  v1789.toNat
def k0_off11 (d0 : Dev nD) (c0_i32_2046 : BitVec 32) (c0_i32_2050 : BitVec 32) : Fin 2 → Nat :=
  let c2048_i32_2049 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1806 : BitVec 32 := Scalar.addi v2 c0_i32_2046
  let c4_i32_2047 : BitVec 32 := 4#32
  let v1807 : BitVec 32 := Scalar.remsi v1806 c4_i32_2047
  let c512_i32_2048 : BitVec 32 := 512#32
  let v1808 : BitVec 32 := Scalar.muli v1807 c512_i32_2048
  let v1809 : BitVec 32 := Scalar.addi c2048_i32_2049 v1808
  let v1810 : BitVec 32 := Scalar.addi v1809 c0_i32_2050
  let c0_i32_2057 : BitVec 32 := 0#32
  ![v1810.toNat, 0]
def k0_dev36 (d0 : Dev nD) : Nat :=
  let c0_i32_2067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2066 : BitVec 32 := 1#32
  let v1820 : BitVec 32 := Scalar.muli v7 c1_i32_2066
  let v1821 : BitVec 32 := Scalar.addi c0_i32_2067 v1820
  v1821.toNat
def k0_dev37 (d0 : Dev nD) : Nat :=
  let c0_i32_2103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2102 : BitVec 32 := 1#32
  let v1853 : BitVec 32 := Scalar.muli v4 c1_i32_2102
  let v1854 : BitVec 32 := Scalar.addi c0_i32_2103 v1853
  v1854.toNat
def k0_dev38 (d0 : Dev nD) : Nat :=
  let c0_i32_2138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2137 : BitVec 32 := 1#32
  let v1885 : BitVec 32 := Scalar.muli v7 c1_i32_2137
  let v1886 : BitVec 32 := Scalar.addi c0_i32_2138 v1885
  v1886.toNat
def k0_dev39 (d0 : Dev nD) : Nat :=
  let c0_i32_2174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2173 : BitVec 32 := 1#32
  let v1918 : BitVec 32 := Scalar.muli v4 c1_i32_2173
  let v1919 : BitVec 32 := Scalar.addi c0_i32_2174 v1918
  v1919.toNat
def k0_dev40 (d0 : Dev nD) : Nat :=
  let c0_i32_2209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2208 : BitVec 32 := 1#32
  let v1950 : BitVec 32 := Scalar.muli v7 c1_i32_2208
  let v1951 : BitVec 32 := Scalar.addi c0_i32_2209 v1950
  v1951.toNat
def k0_dev41 (d0 : Dev nD) : Nat :=
  let c0_i32_2245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2244 : BitVec 32 := 1#32
  let v1983 : BitVec 32 := Scalar.muli v4 c1_i32_2244
  let v1984 : BitVec 32 := Scalar.addi c0_i32_2245 v1983
  v1984.toNat
def k0_dev42 (d0 : Dev nD) : Nat :=
  let c0_i32_2280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2279 : BitVec 32 := 1#32
  let v2015 : BitVec 32 := Scalar.muli v7 c1_i32_2279
  let v2016 : BitVec 32 := Scalar.addi c0_i32_2280 v2015
  v2016.toNat
def k0_dev43 (d0 : Dev nD) : Nat :=
  let c0_i32_2315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2314 : BitVec 32 := 1#32
  let v2048 : BitVec 32 := Scalar.muli v4 c1_i32_2314
  let v2049 : BitVec 32 := Scalar.addi c0_i32_2315 v2048
  v2049.toNat
def k0_dev44 (d0 : Dev nD) : Nat :=
  let c0_i32_2350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2349 : BitVec 32 := 1#32
  let v2080 : BitVec 32 := Scalar.muli v7 c1_i32_2349
  let v2081 : BitVec 32 := Scalar.addi c0_i32_2350 v2080
  v2081.toNat
def k0_dev45 (d0 : Dev nD) : Nat :=
  let c0_i32_2386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2385 : BitVec 32 := 1#32
  let v2113 : BitVec 32 := Scalar.muli v4 c1_i32_2385
  let v2114 : BitVec 32 := Scalar.addi c0_i32_2386 v2113
  v2114.toNat
def k0_dev46 (d0 : Dev nD) : Nat :=
  let c0_i32_2421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2420 : BitVec 32 := 1#32
  let v2145 : BitVec 32 := Scalar.muli v7 c1_i32_2420
  let v2146 : BitVec 32 := Scalar.addi c0_i32_2421 v2145
  v2146.toNat
def k0_dev47 (d0 : Dev nD) : Nat :=
  let c0_i32_2457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2456 : BitVec 32 := 1#32
  let v2178 : BitVec 32 := Scalar.muli v4 c1_i32_2456
  let v2179 : BitVec 32 := Scalar.addi c0_i32_2457 v2178
  v2179.toNat
def k0_dev48 (d0 : Dev nD) : Nat :=
  let c0_i32_2492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2491 : BitVec 32 := 1#32
  let v2210 : BitVec 32 := Scalar.muli v7 c1_i32_2491
  let v2211 : BitVec 32 := Scalar.addi c0_i32_2492 v2210
  v2211.toNat
def k0_dev49 (d0 : Dev nD) : Nat :=
  let c0_i32_2528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2527 : BitVec 32 := 1#32
  let v2243 : BitVec 32 := Scalar.muli v4 c1_i32_2527
  let v2244 : BitVec 32 := Scalar.addi c0_i32_2528 v2243
  v2244.toNat
def k0_dev50 (d0 : Dev nD) : Nat :=
  let c0_i32_2563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2562 : BitVec 32 := 1#32
  let v2275 : BitVec 32 := Scalar.muli v7 c1_i32_2562
  let v2276 : BitVec 32 := Scalar.addi c0_i32_2563 v2275
  v2276.toNat
-- ==== ReferenceIdeal.lean ====
abbrev S4x4096x2048 : Shape := ⟨3, ![4, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
module

public import proofs.«01_k».proof.Proof.Gen.KernelIdeal

/-! # The ring, its lanes and the schedule of one device

The kernel moves two rings at once, one in each direction, and cuts every chunk into four sub-chunks. A direction
and a sub-chunk together are a LANE: eight lanes run side by side on every device and share no buffer piece and no
semaphore. This module names the neighbours, the chunk a lane works on at each step, the events a lane is made
of, and the order in which a device interleaves the lanes' events. -/

@[expose] public section

noncomputable section

namespace Cert.Mesh

open Cert.KernelIdeal
open Idealize.ShloMosaic

/-- A direction (`0`: to the right, `1`: to the left) and a sub-chunk. -/
abbrev Lane : Type := Fin 2 × Fin 4

/-- The neighbour a direction sends to. -/
def nb (c : Dev nD) (d : Fin 2) : Dev nD := if d = 0 then c + 1 else c + 3

/-- The neighbour a direction receives from. -/
def pv (c : Dev nD) (d : Fin 2) : Dev nD := if d = 0 then c + 3 else c + 1

/-- The chunk device `c` receives at step `s` of the reduction; `ch c d 3` is its own chunk. -/
def ch (c : Dev nD) (d : Fin 2) (s : Fin 4) : Fin 4 := if d = 0 then c + 3 * (s + 1) else c + (s + 1)

theorem nb_pv (c : Dev nD) (d : Fin 2) : nb (pv c d) d = c := by revert c d; decide
theorem pv_nb (c : Dev nD) (d : Fin 2) : pv (nb c d) d = c := by revert c d; decide
theorem ch_three (c : Dev nD) (d : Fin 2) : ch c d 3 = c := by revert c d; decide
theorem ch_nb (c : Dev nD) (d : Fin 2) (s : Fin 4) : ch (nb c d) d (s + 1) = ch c d s := by revert c d s; decide

/-- The chunks of one device, as a reindexing of the steps. -/
def chEquiv (c : Dev nD) (d : Fin 2) : Fin 4 ≃ Fin 4 where
  toFun s := ch c d s
  invFun x := if d = 0 then c + 3 * (x + 1) else x + 3 * (c + 1)
  left_inv := by revert c d; decide
  right_inv := by revert c d; decide

/-- The neighbours of a direction, as a reindexing of the devices. -/
def nbEquiv (d : Fin 2) : Dev nD ≃ Dev nD where
  toFun c := nb c d
  invFun c := pv c d
  left_inv c := pv_nb c d
  right_inv c := nb_pv c d

/-- What a lane does, one event per step of the printed body:

* `xs s` starts the copy of chunk `ch s` of the input into staging slot `s`, `xw s` waits for it;
* `own` stores the device's own chunk rounded, `add s` stores the staged chunk rounded plus the received sum;
* `rs s` sends the sum of step `s` on, `rw s` waits for the sum of step `s`, `rsw s` waits for a send to have left;
* `ag t` sends a finished chunk on, `aw t` waits for a finished chunk, `agw t` waits for a send to have left;
* `fl s` starts the copy of a finished chunk into the result, `fw s` waits for it. -/
inductive Ev
  | xs (s : Fin 4) | xw (s : Fin 4) | own | add (s : Fin 3)
  | rs (s : Fin 3) | rw (s : Fin 3) | ag (t : Fin 3) | aw (t : Fin 3)
  | fl (s : Fin 4) | fw (s : Fin 4) | rsw (s : Fin 3) | agw (t : Fin 3)
  deriving DecidableEq

/-- One round over the lanes: sub-chunk by sub-chunk, both directions of each, with the events `es`. -/
def round (es : List Ev) : List (Lane × Ev) :=
  [0, 1, 2, 3].flatMap fun k => [0, 1].flatMap fun d => es.map fun e => ((d, k), e)

/-- What runs before the barrier: the copies of the input into the staging buffer. -/
def pre : List (Lane × Ev) := round [.xs 3] ++ round [.xs 0] ++ round [.xs 1] ++ round [.xs 2]

/-- What runs after the barrier. -/
def post : List (Lane × Ev) :=
  round [.xw 3, .own, .rs 0]
    ++ round [.rw 0, .xw 0, .add 0, .rs 1] ++ round [.rw 1, .xw 1, .add 1, .rs 2]
    ++ round [.rw 2, .xw 2, .add 2, .ag 0, .fl 3]
    ++ round [.aw 0, .ag 1, .fl 0] ++ round [.aw 1, .ag 2, .fl 1] ++ round [.aw 2, .fl 2]
    ++ round [.fw 0] ++ round [.fw 1] ++ round [.fw 2] ++ round [.fw 3]
    ++ round [.rsw 0] ++ round [.rsw 1] ++ round [.rsw 2]
    ++ round [.agw 0] ++ round [.agw 1] ++ round [.agw 2]

/-- One lane's own events, before the barrier. -/
def lanePre : List Ev := [.xs 3, .xs 0, .xs 1, .xs 2]

/-- One lane's own events, after the barrier. -/
def lanePost : List Ev :=
  [.xw 3, .own, .rs 0, .rw 0, .xw 0, .add 0, .rs 1, .rw 1, .xw 1, .add 1, .rs 2, .rw 2, .xw 2, .add 2, .ag 0, .fl 3,
    .aw 0, .ag 1, .fl 0, .aw 1, .ag 2, .fl 1, .aw 2, .fl 2, .fw 0, .fw 1, .fw 2, .fw 3,
    .rsw 0, .rsw 1, .rsw 2, .agw 0, .agw 1, .agw 2]

/-- The events of one lane in a schedule, in order. -/
def laneOf (l : Lane) (L : List (Lane × Ev)) : List Ev := (L.filter fun p => p.1 = l).map (·.2)

theorem laneOf_pre : ∀ l : Lane, laneOf l pre = lanePre := by decide +kernel
theorem laneOf_post : ∀ l : Lane, laneOf l post = lanePost := by decide +kernel

end Cert.Mesh

end

end
-- ==== Proof.Program.lean ====
module

public import proofs.«01_k».proof.Proof.Ring
public import proofs.«01_k».proof.Proof.Gen.KernelIdeal.Points
public import proofs.«01_k».proof.Proof.Gen.KernelIdeal.Launch
public import Idealize.ShloMosaic.Lib.Pipeline.Regions

/-! # The body as a schedule of lane events

The printed body computes every row number from the device's number. Here the same operations are written once per
event, at the row numbers in closed form, and the body is the schedule's events one after another. -/

@[expose] public section

noncomputable section

namespace Cert.Mesh

open Cert.KernelIdeal Cert.KernelIdeal.Gen
open Idealize.ShloMosaic Idealize.ShloMosaic.TcCoe
open Idealize.SL.Sem

variable {F : FTy → Type} [FloatOps F]

/-! ## Pieces of the buffers -/

/-- The first row of sub-chunk `k` of chunk `X` in the half of direction `d`. -/
def row (d : Fin 2) (X k : Fin 4) : Nat := d.val * 2048 + X.val * 512 + k.val * 128

theorem inbV (d : Fin 2) (X k : Fin 4) :
    ∀ a, (![row d X k, 0] : Fin 2 → Nat) a + S128x2048.size a ≤ S4096x2048.size a := by
  revert d X k; decide
theorem inbX (d : Fin 2) (X k : Fin 4) :
    ∀ a, (![0, row d X k, 0] : Fin 3 → Nat) a + S1x128x2048.size a ≤ S1x4096x2048.size a := by
  revert d X k; decide
theorem inbC (s : Fin 3) (k : Fin 4) :
    ∀ a, (![s.val, k.val * 128, 0] : Fin 3 → Nat) a + S1x128x2048.size a ≤ S3x512x2048.size a := by
  revert s k; decide
theorem inbS (s : Fin 4) (d : Fin 2) (k : Fin 4) :
    ∀ a, (![s.val, d.val, k.val * 128, 0] : Fin 4 → Nat) a + S1x1x128x2048.size a ≤ S4x2x512x2048.size a := by
  revert s d k; decide

/-- The rows of a piece of the result buffers. -/
abbrev rectV (d : Fin 2) (X k : Fin 4) : Rect S4096x2048 :=
  Rect.unit (s := S4096x2048) ![row d X k, 0] S128x2048.size (inbV d X k)
/-- The rows of a piece of the input. -/
abbrev rectX (d : Fin 2) (X k : Fin 4) : Rect S1x4096x2048 :=
  Rect.unit (s := S1x4096x2048) ![0, row d X k, 0] S1x128x2048.size (inbX d X k)
/-- The rows of a piece of a receive buffer. -/
abbrev rectC (s : Fin 3) (k : Fin 4) : Rect S3x512x2048 :=
  Rect.unit (s := S3x512x2048) ![s.val, k.val * 128, 0] S1x128x2048.size (inbC s k)
/-- The rows of a piece of the staging buffer. -/
abbrev rectS (s : Fin 4) (d : Fin 2) (k : Fin 4) : Rect S4x2x512x2048 :=
  Rect.unit (s := S4x2x512x2048) ![s.val, d.val, k.val * 128, 0] S1x1x128x2048.size (inbS s d k)

theorem packedV (d : Fin 2) (X k : Fin 4) : (rectV d X k).PackedRows (EltTy.packing .bf16) := by
  revert d X k; decide +kernel
theorem wordsV (d : Fin 2) (X k : Fin 4) : (rectV d X k).WholeWords (EltTy.packing .bf16) := by
  revert d X k; decide +kernel
theorem wordsC (s : Fin 3) (k : Fin 4) : (rectC s k).WholeWords (EltTy.packing .bf16) := by
  revert s k; decide +kernel

/-- The working buffer: every chunk's partial sum, then its total. -/
abbrev voutM : Memref sig .tc .vmem S4096x2048 .bf16 := Memref.whole cc0_scratch0
/-- The result. -/
abbrev outM : Memref sig .tc .hbm S4096x2048 .bf16 := Memref.whole main_v1
/-- The input. -/
abbrev xM : Memref sig .tc .hbm S1x4096x2048 .f32 := Memref.whole main_arg0
/-- The staging buffer of the input. -/
abbrev stageM : Memref sig .tc .vmem S4x2x512x2048 .f32 := Memref.whole cc0_scratch3

/-- The receive buffer of a direction. -/
def commM : Fin 2 → Memref sig .tc .vmem S3x512x2048 .bf16
  | 0 => Memref.whole cc0_scratch1
  | 1 => Memref.whole cc0_scratch2

theorem commW : (d : Fin 2) → (commM d).IsWhole
  | 0 => Memref.isWhole_whole _
  | 1 => Memref.isWhole_whole _

/-- A piece of the working buffer. -/
def voutP (d : Fin 2) (X k : Fin 4) : Memref sig .tc .vmem S128x2048 .bf16 :=
  voutM.slice (rectV d X k) (fun _ => rfl)
/-- A piece of the result. -/
def outP (d : Fin 2) (X k : Fin 4) : Memref sig .tc .hbm S128x2048 .bf16 :=
  outM.slice (rectV d X k) (fun _ => rfl)
/-- A piece of the input. -/
def xP (d : Fin 2) (X k : Fin 4) : Memref sig .tc .hbm S128x2048 .f32 :=
  (xM.slice (rectX d X k) (fun _ => rfl)).squeeze S128x2048 squeezes_S1x128x2048_S128x2048
/-- A piece of a receive buffer. -/
def commP (d : Fin 2) (s : Fin 3) (k : Fin 4) : Memref sig .tc .vmem S128x2048 .bf16 :=
  ((commM d).slice (rectC s k) (fun _ => rfl)).squeeze S128x2048 squeezes_S1x128x2048_S128x2048
/-- A piece of the staging buffer. -/
def stageP (s : Fin 4) (d : Fin 2) (k : Fin 4) : Memref sig .tc .vmem S128x2048 .f32 :=
  (stageM.slice (rectS s d k) (fun _ => rfl)).squeeze S128x2048 squeezes_S1x1x128x2048_S128x2048

/-! ## Semaphores -/

/-- The semaphore a send counts on when it has left: steps `0..2` of the reduction, then `3..5` of the gathering. -/
def sendSem (d : Fin 2) (i : Fin 6) (k : Fin 4) : DmaSem sig :=
  ⟨d.val * 48 + i.val * 4 + k.val, by change _ < 160; omega⟩
/-- The semaphore a send counts on when it has arrived. -/
def recvSem (d : Fin 2) (i : Fin 6) (k : Fin 4) : DmaSem sig :=
  ⟨d.val * 48 + i.val * 4 + k.val + 24, by change _ < 160; omega⟩
/-- The semaphore of a copy into the staging buffer. -/
def xSem (s k : Fin 4) (d : Fin 2) : DmaSem sig :=
  ⟨96 + s.val * 8 + k.val * 2 + d.val, by change _ < 160; omega⟩
/-- The semaphore of a copy into the result. -/
def fSem (s k : Fin 4) (d : Fin 2) : DmaSem sig :=
  ⟨128 + s.val * 8 + k.val * 2 + d.val, by change _ < 160; omega⟩

/-- Step `s` of the reduction among the six steps. -/
def rsI (s : Fin 3) : Fin 6 := ⟨s.val, by omega⟩
/-- Step `t` of the gathering among the six steps. -/
def agI (t : Fin 3) : Fin 6 := ⟨t.val + 3, by omega⟩
/-- A receiving step as a staging slot. -/
def up (s : Fin 3) : Fin 4 := ⟨s.val, by omega⟩

/-- The barrier semaphore. -/
abbrev barS : Sem sig := (SemArray.scalar (sig.barrier 0 rfl) : Sems sig S_).sem

/-! ## What is stored -/

/-- The device's own chunk, rounded. -/
def payOwn (v : Vec F S1x1x128x2048 .f32) : FVec F S128x2048 .bf16 :=
  shapeCast S128x2048 (truncf .bf16 (shapeCast S128x2048 v shapeCasts_S1x1x128x2048_S128x2048) bitsLt_bf16_f32)
    shapeCasts_S128x2048_S128x2048

/-- The device's chunk rounded, plus the sum received. -/
def payAdd (v : Vec F S1x1x128x2048 .f32) (w : Vec F S1x128x2048 .bf16) : FVec F S128x2048 .bf16 :=
  shapeCast S128x2048
    (addf (truncf .bf16 (shapeCast S128x2048 v shapeCasts_S1x1x128x2048_S128x2048) bitsLt_bf16_f32)
      (shapeCast S128x2048 w shapeCasts_S1x128x2048_S128x2048))
    shapeCasts_S128x2048_S128x2048

/-! ## The events -/

/-- A device's program. -/
abbrev P (F : FTy → Type) (α : Type) : Type 1 := Prog (TpuEff nD τ sig (Elt F) Λ₀ .tc) α

/-- Reading a piece of the staging buffer. -/
def loadS (s : Fin 4) (d : Fin 2) (k : Fin 4) : P F (Vec F S1x1x128x2048 .f32) :=
  Prog.lift (.load stageM (rectS s d k).toLoadRect (View.loadsAt_vmem h_S1x1x128x2048))
/-- Reading a piece of a receive buffer. -/
def loadC (d : Fin 2) (s : Fin 3) (k : Fin 4) : P F (Vec F S1x128x2048 .bf16) :=
  Prog.lift (.load (commM d) (rectC s k).toLoadRect (View.loadsAt_vmem h_S1x128x2048))
/-- Reading a piece of the working buffer. -/
def loadV (d : Fin 2) (X k : Fin 4) : P F (Vec F S128x2048 .bf16) :=
  Prog.lift (.load voutM (rectV d X k).toLoadRect (View.loadsAt_vmem h_S128x2048))
/-- Writing a piece of the working buffer. -/
def storeV (d : Fin 2) (X k : Fin 4) (v : FVec F S128x2048 .bf16) : P F PUnit :=
  Prog.lift (.store voutM (rectV d X k) v Finset.univ
    (View.stores_vmem h_S128x2048 ((Memref.isWhole_whole cc0_scratch0).storeExact_slice rfl _ (packedV d X k))
      (fun _ => rfl)) (.inl rfl))

theorem wordV (d : Fin 2) (X k : Fin 4) : (voutP d X k).view.WordExact :=
  (Memref.isWhole_whole cc0_scratch0).wordExact_slice rfl _ (wordsV d X k)
theorem wordO (d : Fin 2) (X k : Fin 4) : (outP d X k).view.WordExact :=
  (Memref.isWhole_whole main_v1).wordExact_slice rfl _ (wordsV d X k)
theorem wordC (d : Fin 2) (s : Fin 3) (k : Fin 4) : (commP d s k).view.WordExact :=
  ((commW d).wordExact_slice rfl _ (wordsC s k)).reshape _ _
theorem wordX (d : Fin 2) (X k : Fin 4) : (xP d X k).view.WordExact := (View.wordExact_bits rfl).reshape _ _
theorem wordS (s : Fin 4) (d : Fin 2) (k : Fin 4) : (stageP s d k).view.WordExact :=
  (View.wordExact_bits rfl).reshape _ _

/-- One event of lane `(d, k)` on device `c`. -/
def evProg (c : Dev nD) (d : Fin 2) (k : Fin 4) : Ev → P F PUnit
  | .xs s => Prog.lift (.enqueueDma (xP d (ch c d s) k) (.here (stageP s d k)) (.dma (xSem s k d))
      (wordX _ _ _) (wordS _ _ _) ⟨Or.inl rfl, trivial⟩)
  | .xw s => Prog.lift (.waitDma2 (xSem s k d) (xP d (ch c d s) k) (stageP s d k) (wordX _ _ _) (wordS _ _ _))
  | .own => loadS 3 d k >>= fun v => loadV d (ch c d 3) k >>= fun _ => storeV d (ch c d 3) k (payOwn v)
  | .add s => loadS (up s) d k >>= fun v => loadC d s k >>= fun w =>
      loadV d (ch c d (up s)) k >>= fun _ => storeV d (ch c d (up s)) k (payAdd v w)
  | .rs s => Prog.lift (.enqueueDma (voutP d (ch c d (up s + 3)) k)
      (.remote (Dev.tc (nb c d)) (commP d s k) (.dma (sendSem d (rsI s) k))) (.dma (recvSem d (rsI s) k))
      (wordV _ _ _) (wordC _ _ _) ⟨⟨rfl, Or.inl rfl⟩, trivial⟩)
  | .rw s => Prog.lift (.waitDma2 (recvSem d (rsI s) k) (voutP d 0 k) (commP d s k) (wordV _ _ _) (wordC _ _ _))
  | .ag t => Prog.lift (.enqueueDma (voutP d (ch c d (up t + 2)) k)
      (.remote (Dev.tc (nb c d)) (voutP d (ch c d (up t + 2)) k) (.dma (sendSem d (agI t) k)))
      (.dma (recvSem d (agI t) k)) (wordV _ _ _) (wordV _ _ _) ⟨⟨rfl, Or.inl rfl⟩, trivial⟩)
  | .aw t => Prog.lift (.waitDma2 (recvSem d (agI t) k) (voutP d (ch c d (up t + 3)) k) (voutP d (ch c d (up t + 3)) k)
      (wordV _ _ _) (wordV _ _ _))
  | .fl s => Prog.lift (.enqueueDma (voutP d (ch c d (s + 3)) k) (.here (outP d (ch c d (s + 3)) k))
      (.dma (fSem s k d)) (wordV _ _ _) (wordO _ _ _) ⟨Or.inl rfl, trivial⟩)
  | .fw s => Prog.lift (.waitDma2 (fSem s k d) (voutP d (ch c d (s + 3)) k) (outP d (ch c d (s + 3)) k)
      (wordV _ _ _) (wordO _ _ _))
  | .rsw s => Prog.lift (.waitDma2 (sendSem d (rsI s) k) (commP d s k) (voutP d 0 k) (wordC _ _ _) (wordV _ _ _))
  | .agw t => Prog.lift (.waitDma2 (sendSem d (agI t) k) (voutP d 0 k) (voutP d 0 k) (wordV _ _ _) (wordV _ _ _))

/-- A schedule's events one after another, then `p`. -/
def runEvs (c : Dev nD) : List (Lane × Ev) → P F PUnit → P F PUnit
  | [], p => p
  | e :: L, p => evProg c e.1.1 e.1.2 e.2 >>= fun _ => runEvs c L p

/-- What a device runs. -/
def devProg (c : Dev nD) : P F PUnit :=
  runEvs c pre (semSignalWord (nb c 1) barS 1#32 >>= fun _ => semSignalWord (nb c 0) barS 1#32 >>= fun _ =>
    semWaitWord barS 2#32 >>= fun _ => runEvs c post (.ret ⟨⟩))

/-- A program that first asks which device it runs on, once it knows. -/
def knowing (p : P F PUnit) (c : Dev nD) : P F PUnit :=
  match p with
  | .op .deviceId k => k c
  | p => p

/-- The printed body on the buffers it is called with. -/
abbrev printed : P F PUnit := bodyAt0 (F := F) t0_0

end Cert.Mesh

end

end
-- ==== Proof.Body.lean ====
module

public import proofs.«01_k».proof.Proof.Program

/-! # The printed body is the schedule

The four devices' bodies are compared with their schedules operation by operation: at a device's number every printed
row number is a numeral. -/

@[expose] public section

noncomputable section

namespace Cert.Mesh

open Cert.KernelIdeal Cert.KernelIdeal.Gen
open Idealize.ShloMosaic Idealize.ShloMosaic.TcCoe
open Idealize.SL.Sem

variable {F : FTy → Type} [FloatOps F]

theorem printed_zero : knowing (printed (F := F)) 0 = devProg 0 := by chain_rfl
theorem printed_one : knowing (printed (F := F)) 1 = devProg 1 := by chain_rfl
theorem printed_two : knowing (printed (F := F)) 2 = devProg 2 := by chain_rfl
theorem printed_three : knowing (printed (F := F)) 3 = devProg 3 := by chain_rfl

/-- On device `c` the printed body runs the schedule of device `c`. -/
theorem printed_dev (c : Dev nD) : knowing (printed (F := F)) c = devProg c :=
  match c with
  | 0 => printed_zero
  | 1 => printed_one
  | 2 => printed_two
  | 3 => printed_three

/-- The printed body asks for its device first. -/
theorem printed_eq : printed (F := F) = .op .deviceId (knowing (printed (F := F))) := by chain_rfl

/-- The printed body asks for its device, then runs that device's schedule. -/
theorem printed_devProg : printed (F := F) = .op .deviceId devProg :=
  printed_eq.trans (congrArg _ (funext printed_dev))

end Cert.Mesh

end

end
-- ==== Proof.Values.lean ====
module

public import proofs.«01_k».proof.Proof.Program
public import Idealize.ShloMosaic.Lib.Pipeline.Value

/-! # What the pieces hold

Chunk `X` of a direction starts on device `X` and visits the devices in the direction's order: the partial sum after
`j` hops adds the rounded chunk of the device then reached. The total is the sum after three hops. -/

@[expose] public section

noncomputable section

namespace Cert.Mesh

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The input of device `c`. -/
def xin (c : Dev nD) : (main_arg0 : Ref sig .tc).ty.Contents (Elt F) := m ((c : Thread nD τ).loc main_arg0)

/-- A piece of the input of device `c`. -/
def xblk (c : Dev nD) (d : Fin 2) (X k : Fin 4) : FVec F S128x2048 .f32 := (xP d X k).view.read (Elt F) (xin m c)

/-- A piece rounded. -/
def rnd (v : FVec F S128x2048 .f32) : FVec F S128x2048 .bf16 := truncf .bf16 v bitsLt_bf16_f32

/-- The device chunk `X` is on after `j` hops. -/
def dv (d : Fin 2) (X : Fin 4) : ℕ → Dev nD
  | 0 => X
  | j + 1 => nb (dv d X j) d

theorem dv_own (c : Dev nD) (d : Fin 2) : dv d (ch c d 3) 0 = c := by revert c d; decide
theorem dv_recv (c : Dev nD) (d : Fin 2) (s : Fin 3) : dv d (ch c d (up s)) (s.val + 1) = c := by revert c d s; decide

/-- The partial sum of a piece after `j` hops. -/
def psum (d : Fin 2) (X k : Fin 4) : ℕ → FVec F S128x2048 .bf16
  | 0 => rnd (xblk m (dv d X 0) d X k)
  | j + 1 => addf (rnd (xblk m (dv d X (j + 1)) d X k)) (psum d X k j)

/-- The total of a piece. -/
def tot (d : Fin 2) (X k : Fin 4) : FVec F S128x2048 .bf16 := psum m d X k 3

/-! ## Reading back what was stored -/

omit [FloatOps F] in
/-- Reading a staged piece by the rectangle is reading it by the squeezed view, reshaped. -/
theorem cast_stage (s : Fin 4) (d : Fin 2) (k : Fin 4) (f : (cc0_scratch3 : Ref sig .tc).ty.Contents (Elt F)) :
    (shapeCast S128x2048 (stageM.view.readAt (Elt F) (rectS s d k).toLoadRect f : Vec F S1x1x128x2048 .f32)
      shapeCasts_S1x1x128x2048_S128x2048 : FVec F S128x2048 .f32) = (stageP s d k).view.read (Elt F) f := rfl

theorem payOwn_read (s : Fin 4) (d : Fin 2) (k : Fin 4) (f : (cc0_scratch3 : Ref sig .tc).ty.Contents (Elt F)) :
    payOwn (stageM.view.readAt (Elt F) (rectS s d k).toLoadRect f) = rnd ((stageP s d k).view.read (Elt F) f) := by
  unfold payOwn rnd
  rw [shapeCast_self]
  rfl

/-- The contents of a receive buffer. -/
abbrev CommC (F : FTy → Type) (d : Fin 2) : Type := (commM d).view.ty.Contents (Elt F)

theorem payAdd_read (s : Fin 4) (d : Fin 2) (t : Fin 3) (k : Fin 4)
    (f : (cc0_scratch3 : Ref sig .tc).ty.Contents (Elt F)) (g : CommC F d) :
    payAdd (stageM.view.readAt (Elt F) (rectS s d k).toLoadRect f) ((commM d).view.readAt (Elt F) (rectC t k).toLoadRect g)
      = addf (rnd ((stageP s d k).view.read (Elt F) f)) ((commP d t k).view.read (Elt F) g) := by
  unfold payAdd rnd
  rw [shapeCast_self]
  rfl

/-- A piece of the working buffer reads what was stored through its rectangle. -/
theorem read_store (d : Fin 2) (X k : Fin 4) (f : (cc0_scratch0 : Ref sig .tc).ty.Contents (Elt F))
    (w : FVec F S128x2048 .bf16) :
    (voutP d X k).view.read (Elt F)
      ((voutM.access (rectV d X k) : View sig .tc _ _ _).write (Elt F) f w Finset.univ) = w :=
  View.read_write_univ _ _

end Cert.Mesh

end

end
-- ==== Proof.Proto.lean ====
module

public import proofs.«01_k».proof.Proof.Values
public import Idealize.ShloMosaic.Lib.Pipeline.Launch
public import Idealize.ShloMosaic.Lib.Pipeline.Kit
public import Idealize.ShloMosaic.Lib.MemrefSat
public import Idealize.ShloMosaic.Lib.Tactic
public import Mathlib.Tactic.DeriveFintype

/-! # The protocol

Every semaphore is used for one round. A lane of a device has twenty DMA semaphores, each with one contribution, and
a device has the barrier semaphore, with one contribution from each neighbour.

* A copy into the staging buffer (`x s`) hands back the piece of the input and the staged piece.
* A send of the reduction hands its receiver (`rsR s`) the received partial sum, and besides the sender's piece of the
  working buffer it was read from together with the pieces of the chunk the sender had received earlier: they are the
  landing places of the gathering. The sender's own semaphore (`rsS s`) hands back nothing.
* A send of the gathering hands its receiver (`agR t`) the receiver's own piece of the working buffer, now holding the
  total, and the landing places that remain; its sender (`agS t`) gets back the half of its piece the send read.
* A copy into the result (`f s`) hands back the piece of the result, holding the total, and the other half.
* The barrier hands a device the receive buffers of the neighbours it sends to. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores of a lane -/

/-- A lane's semaphores: sent and received, in the reduction and in the gathering; staged; flushed. -/
inductive LSem
  | rsS (s : Fin 3) | rsR (s : Fin 3) | agS (t : Fin 3) | agR (t : Fin 3) | x (s : Fin 4) | f (s : Fin 4)
  deriving DecidableEq, Fintype

/-- The semaphore's place among the device's DMA semaphores. -/
def semOf (l : Lane) : LSem → DmaSem sig
  | .rsS s => sendSem l.1 (rsI s) l.2
  | .rsR s => recvSem l.1 (rsI s) l.2
  | .agS t => sendSem l.1 (agI t) l.2
  | .agR t => recvSem l.1 (agI t) l.2
  | .x s => xSem s l.2 l.1
  | .f s => fSem s l.2 l.1

theorem semOf_bijective : Function.Bijective fun p : Lane × LSem => semOf p.1 p.2 := by decide +kernel

/-- The lanes' semaphores are all of the device's DMA semaphores. -/
def semEquiv : Lane × LSem ≃ DmaSem sig := Equiv.ofBijective _ semOf_bijective

/-- Which lane a DMA semaphore is of, and which of its semaphores it is. -/
def cod (q : DmaSem sig) : Lane × LSem := semEquiv.symm q

theorem cod_semOf (l : Lane) (e : LSem) : cod (semOf l e) = (l, e) :=
  Equiv.ofBijective_symm_apply_apply _ semOf_bijective (l, e)

/-- A lane's semaphore on device `c`. -/
abbrev lc (c : Dev nD) (l : Lane) (e : LSem) : GSem nD τ sig := ((c : Thread nD τ), .dma (semOf l e))
/-- The barrier semaphore on device `c`. -/
abbrev barCell (c : Dev nD) : GSem nD τ sig := ((c : Thread nD τ), .reg barS)

/-- What a transfer of a rounded piece counts. -/
def NB : ℕ := (voutP 0 0 0).view.dmaCredit
/-- What a transfer of a piece of the input counts. -/
def NX : ℕ := (stageP 0 0 0).view.dmaCredit

theorem NB_pos : 0 < NB := View.dmaCredit_pos _ (by decide)
theorem NX_pos : 0 < NX := View.dmaCredit_pos _ (by decide)

theorem credit_vout (d : Fin 2) (X k : Fin 4) : (voutP d X k).view.dmaCredit = NB := rfl
theorem credit_out (d : Fin 2) (X k : Fin 4) : (outP d X k).view.dmaCredit = NB := rfl
theorem credit_comm (d : Fin 2) (s : Fin 3) (k : Fin 4) : (commP d s k).view.dmaCredit = NB := by
  revert d; intro d; fin_cases d <;> rfl
theorem credit_stage (s : Fin 4) (d : Fin 2) (k : Fin 4) : (stageP s d k).view.dmaCredit = NX := rfl

/-! ## What is handed over -/

/-- A piece of the working buffer of device `c`, holding anything. -/
def anyV (c : Dev nD) (d : Fin 2) (X k : Fin 4) : sProp 𝕄 := ownsSatTc c (voutP d X k) fullShare fun _ => True
/-- A piece of the result of device `c`, holding anything. -/
def anyO (c : Dev nD) (d : Fin 2) (X k : Fin 4) : sProp 𝕄 := ownsSatTc c (outP d X k) fullShare fun _ => True
/-- A piece of a receive buffer of device `c`, holding anything. -/
def anyC (c : Dev nD) (d : Fin 2) (s : Fin 3) (k : Fin 4) : sProp 𝕄 := ownsSatTc c (commP d s k) fullShare fun _ => True
/-- A piece of the staging buffer of device `c`, holding anything. -/
def anyS (c : Dev nD) (d : Fin 2) (s : Fin 4) (k : Fin 4) : sProp 𝕄 := ownsSatTc c (stageP s d k) fullShare fun _ => True
/-- A piece of the input of device `c`, as the launch found it. -/
def xPt (c : Dev nD) (d : Fin 2) (X k : Fin 4) : sProp 𝕄 :=
  (xP d X k).view.loc (c : Thread nD τ) ↦[(xP d X k).view.set]{fullShare} xin m c
/-- A piece of the working buffer of device `c` holding `v`, at share `q`. -/
def vAt (c : Dev nD) (d : Fin 2) (X k : Fin 4) (q : PosShare TreeShare) (v : FVec F S128x2048 .bf16) : sProp 𝕄 :=
  ownsTc c (voutP d X k) q v
/-- A piece of the result of device `c` holding `v`. -/
def oAt (c : Dev nD) (d : Fin 2) (X k : Fin 4) (v : FVec F S128x2048 .bf16) : sProp 𝕄 :=
  ownsTc c (outP d X k) fullShare v
/-- A piece of a receive buffer of device `c` holding `v`. -/
def cAt (c : Dev nD) (d : Fin 2) (s : Fin 3) (k : Fin 4) (v : FVec F S128x2048 .bf16) : sProp 𝕄 :=
  ownsTc c (commP d s k) fullShare v
/-- A piece of the staging buffer of device `c` holding `v`. -/
def sAt (c : Dev nD) (d : Fin 2) (s : Fin 4) (k : Fin 4) (v : FVec F S128x2048 .f32) : sProp 𝕄 :=
  ownsTc c (stageP s d k) fullShare v

/-- The pieces of chunk `X` of the `n` devices before device `c` in the direction's order. -/
def early (d : Fin 2) (X k : Fin 4) : ℕ → Dev nD → sProp 𝕄
  | 0, _ => iprop(emp)
  | n + 1, c => iprop(anyV (pv c d) d X k ∗ early d X k n (pv c d))

/-- The pieces of chunk `X` of the `n` devices after device `c`. -/
def late (d : Fin 2) (X k : Fin 4) : ℕ → Dev nD → sProp 𝕄
  | 0, _ => iprop(emp)
  | n + 1, c => iprop(anyV (nb c d) d X k ∗ late d X k n (nb c d))

/-- What a lane's semaphore hands its device. -/
def lanePay (c : Dev nD) (l : Lane) : LSem → sProp 𝕄
  | .rsS _ => iprop(emp)
  | .rsR s => iprop(cAt c l.1 s l.2 (psum m l.1 (ch c l.1 (up s)) l.2 s.val)
      ∗ early l.1 (ch c l.1 (up s)) l.2 (s.val + 1) c)
  | .agS t => vAt c l.1 (ch c l.1 (up t + 2)) l.2 fullShare.left (tot m l.1 (ch c l.1 (up t + 2)) l.2)
  | .agR t => iprop(vAt c l.1 (ch c l.1 (up t + 3)) l.2 fullShare (tot m l.1 (ch c l.1 (up t + 3)) l.2)
      ∗ late l.1 (ch c l.1 (up t + 3)) l.2 (2 - t.val) c)
  | .x s => iprop(xPt m c l.1 (ch c l.1 s) l.2 ∗ sAt c l.1 s l.2 (xblk m c l.1 (ch c l.1 s) l.2))
  | .f s => iprop(oAt c l.1 (ch c l.1 (s + 3)) l.2 (tot m l.1 (ch c l.1 (s + 3)) l.2)
      ∗ vAt c l.1 (ch c l.1 (s + 3)) l.2 fullShare.right (tot m l.1 (ch c l.1 (s + 3)) l.2))

/-- The receive buffer of a direction on device `c`, piece by piece. -/
def comms (c : Dev nD) (d : Fin 2) : sProp 𝕄 :=
  bigSep Finset.univ fun k : Fin 4 => bigSep Finset.univ fun s : Fin 3 => anyC c d s k

instance anyV_storable (c : Dev nD) (d X k) : BI.Storable (upEmb : UEmb _ 𝕄) (anyV (F := F) c d X k) := by
  unfold anyV; infer_instance
instance early_storable (d X k) : (n : ℕ) → (c : Dev nD) → BI.Storable (upEmb : UEmb _ 𝕄) (early (F := F) d X k n c)
  | 0, _ => by unfold early; infer_instance
  | n + 1, c => by have := early_storable d X k n (pv c d); unfold early; infer_instance
instance late_storable (d X k) : (n : ℕ) → (c : Dev nD) → BI.Storable (upEmb : UEmb _ 𝕄) (late (F := F) d X k n c)
  | 0, _ => by unfold late; infer_instance
  | n + 1, c => by have := late_storable d X k n (nb c d); unfold late; infer_instance
theorem pts_storable {ℓ : Loc nD τ sig} (S : Finset ℓ.ty.Idx) (f : Buf (Elt F) ℓ) :
    BI.Storable (upEmb : UEmb _ 𝕄) (ℓ ↦[S]{fullShare} f) := inferInstance
instance xPt_storable (c : Dev nD) (d X k) : BI.Storable (upEmb : UEmb _ 𝕄) (xPt (F := F) m c d X k) :=
  pts_storable _ _
instance lanePay_storable (c : Dev nD) (l : Lane) (e : LSem) : BI.Storable (upEmb : UEmb _ 𝕄) (lanePay (F := F) m c l e) := by
  cases e <;> dsimp only [lanePay, cAt, vAt, sAt, oAt] <;> infer_instance
instance comms_storable (c : Dev nD) (d : Fin 2) : BI.Storable (upEmb : UEmb _ 𝕄) (comms (F := F) c d) := by
  unfold comms anyC; infer_instance

/-! ## The rounds -/

/-- What a contribution to a semaphore counts. -/
def amountAt : SemLoc sig → ℕ
  | .reg _ => 1
  | .dma q => match (cod q).2 with
    | .x _ => NX
    | _ => NB

/-- What a contribution hands over. -/
def payAt (c : Dev nD) (d : Fin 2) : SemLoc sig → sProp 𝕄
  | .reg _ => comms (nb c d) d
  | .dma q => lanePay m c (cod q).1 (cod q).2

/-- Who contributes: both neighbours to a barrier semaphore, one transfer to a DMA semaphore. -/
def dutiesAt : SemLoc sig → Finset (Fin 2)
  | .reg _ => Finset.univ
  | .dma _ => {0}

theorem amountAt_pos (sm : SemLoc sig) : 0 < amountAt sm := by
  cases sm with
  | reg _ => exact Nat.one_pos
  | dma q => unfold amountAt; dsimp only; split; exacts [NX_pos, NB_pos]

/-- One round per semaphore. -/
def Rd : Rounds.Schedule (GSem nD τ sig) (Fin 2) 𝕄 where
  duties g r := if r = 0 then dutiesAt g.2 else ∅
  unitless _ := False
  amount g _ _ := amountAt g.2
  payload g _ d := payAt m g.1.1 d g.2
  amount_pos g _ _ _ := amountAt_pos g.2

instance Rd_storable (g : GSem nD τ sig) (r : ℕ) (d : Fin 2) :
    BI.Storable (upEmb : UEmb _ 𝕄) ((Rd (F := F) m).payload g r d) := by
  show BI.Storable upEmb (payAt m g.1.1 d g.2)
  unfold payAt; split <;> infer_instance

theorem duties_later (g : GSem nD τ sig) (r : ℕ) (h : 1 ≤ r) : (Rd (F := F) m).duties g r = ∅ :=
  if_neg (by omega)
theorem duties_lane (c : Dev nD) (l : Lane) (e : LSem) : (Rd (F := F) m).duties (lc c l e) 0 = {0} := rfl
theorem duties_bar (c : Dev nD) : (Rd (F := F) m).duties (barCell c) 0 = Finset.univ := rfl

/-- What a lane's semaphore counts. -/
def laneAmount : LSem → ℕ
  | .x _ => NX
  | _ => NB

theorem amount_lane (c : Dev nD) (l : Lane) (e : LSem) (r : ℕ) (d : Fin 2) :
    (Rd (F := F) m).amount (lc c l e) r d = laneAmount e := by
  show amountAt (.dma (semOf l e)) = _
  unfold amountAt; dsimp only; rw [cod_semOf]; cases e <;> rfl
theorem amount_bar (c : Dev nD) (r : ℕ) (d : Fin 2) : (Rd (F := F) m).amount (barCell c) r d = 1 := rfl

theorem payload_lane (c : Dev nD) (l : Lane) (e : LSem) (d : Fin 2) :
    (Rd (F := F) m).payload (lc c l e) 0 d = lanePay m c l e := by
  show payAt m c d (.dma (semOf l e)) = _
  unfold payAt; dsimp only; rw [cod_semOf]
theorem payload_bar (c : Dev nD) (d : Fin 2) : (Rd (F := F) m).payload (barCell c) 0 d = comms (nb c d) d := rfl

theorem expect_lane (c : Dev nD) (l : Lane) (e : LSem) : (Rd (F := F) m).expect (lc c l e) 0 = laneAmount e := by
  unfold Schedule.expect Schedule.amountOf; rw [duties_lane, Finset.sum_singleton, amount_lane]
theorem expect_bar (c : Dev nD) : (Rd (F := F) m).expect (barCell c) 0 = 2 := by
  unfold Schedule.expect Schedule.amountOf
  rw [duties_bar, Finset.sum_congr rfl fun d _ => amount_bar m c 0 d]; rfl

theorem rest_lane (c : Dev nD) (l : Lane) (e : LSem) :
    bigSep ((Rd (F := F) m).duties (lc c l e) 0 \ ∅) (fun d => (Rd (F := F) m).payload (lc c l e) 0 d) = lanePay m c l e := by
  rw [Finset.sdiff_empty, duties_lane, bigSep_singleton, payload_lane]
theorem rest_bar (c : Dev nD) :
    bigSep ((Rd (F := F) m).duties (barCell c) 0 \ ∅) (fun d => (Rd (F := F) m).payload (barCell c) 0 d)
      = iprop(comms (nb c 0) 0 ∗ comms (nb c 1) 1) := by
  rw [Finset.sdiff_empty, duties_bar, bigSep_univ_eq_bigSepL [0, 1] (by decide) (by decide), bigSepL_cons_cons,
    bigSepL_singleton, payload_bar, payload_bar]; rfl

/-! ## The order of the waits -/

def L (g : GSem nD τ sig) : Finset Unit := if g.1.2 = .tc then {()} else ∅

/-- A semaphore's level: nothing is owed at level `0`; the barrier comes first, then the steps in their order. -/
def semLv : LSem → ℕ
  | .rsR s => 2 + s.val
  | .agR t => 5 + t.val
  | _ => 0

def lv (g : GSem nD τ sig) (_ : Unit) : ℕ := match g.2 with
  | .reg _ => 1
  | .dma q => semLv (cod q).2

theorem L_of_ne (g : GSem nD τ sig) (h : g.1.2 ≠ .tc) : L g = ∅ := if_neg h
theorem mem_L (c : Dev nD) (sm : SemLoc sig) : () ∈ L ((c : Thread nD τ), sm) := by
  rw [L, if_pos rfl]; exact Finset.mem_singleton_self _
theorem lv_lane (c : Dev nD) (l : Lane) (e : LSem) (u : Unit) : lv (lc c l e) u = semLv e := by
  show semLv (cod (semOf l e)).2 = _
  rw [cod_semOf]
theorem lv_bar (c : Dev nD) (u : Unit) : lv (barCell c) u = 1 := rfl

/-- Every debt is to a semaphore above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · rw [h0, Nat.zero_add] at hg; exact h' g u hg
  · exact h g u h0
theorem Above.tally {n : ℕ} {c : Dev nD} {sm : SemLoc sig} (k : ℕ) (h : n < lv ((c : Thread nD τ), sm) ()) :
    Above n (tallyAt ((c : Thread nD τ), sm) () k) := by
  intro g u hg
  rw [tallyAt_apply] at hg
  by_cases he : g = ((c : Thread nD τ), sm) ∧ u = ()
  · rw [he.1]; exact ⟨mem_L c sm, h⟩
  · rw [if_neg he] at hg; exact absurd hg (Nat.lt_irrefl 0)

/-- A device may wait on a semaphore below everything it owes. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp]; exact mem_L c sm) (fun g u hg => (h g u hg).1)
    (fun p hp => by rw [Finset.mem_singleton.mp hp]) (fun g u hg => (h g u hg).2)

/-! ## What every device knows -/

/-- The semaphores of a device: the barrier, or a lane's. -/
abbrev CI : Type := Option (Lane × LSem)

/-- A device's semaphore by its index. -/
def cellAt (p : Dev nD × CI) : GSem nD τ sig := match p.2 with
  | none => barCell p.1
  | some q => lc p.1 q.1 q.2

/-- The semaphores' invariants and that their round is open, and the levels. -/
def ctx (K : Dev nD × CI → ℕ) : sProp 𝕄 :=
  iprop((bigSep Finset.univ fun p : Dev nD × CI =>
      iprop(cellInv ER (Rd m) (K p) (cellAt p) ∗ reached ER (cellAt p) 0)) ∗ levAts L lv)

instance ctx_persistent (K : Dev nD × CI → ℕ) : BI.Persistent (ctx (F := F) m K) := by unfold ctx; infer_instance

theorem ctx_inv (K : Dev nD × CI → ℕ) (p : Dev nD × CI) :
    ctx (F := F) m K ⊢ iprop(cellInv ER (Rd m) (K p) (cellAt p) ∗ reached ER (cellAt p) 0) := by
  unfold ctx
  exact (sep_elim_left (PROP := sProp 𝕄)).trans (bigSep_elim (Finset.mem_univ p))

theorem ctx_lane (K : Dev nD × CI → ℕ) (c : Dev nD) (l : Lane) (e : LSem) :
    ctx (F := F) m K ⊢ iprop(cellInv ER (Rd m) (K (c, some (l, e))) (lc c l e) ∗ reached ER (lc c l e) 0) :=
  ctx_inv m K (c, some (l, e))
theorem ctx_bar (K : Dev nD × CI → ℕ) (c : Dev nD) :
    ctx (F := F) m K ⊢ iprop(cellInv ER (Rd m) (K (c, none)) (barCell c) ∗ reached ER (barCell c) 0) :=
  ctx_inv m K (c, none)
theorem ctx_lev (K : Dev nD × CI → ℕ) : ctx (F := F) m K ⊢ levAts L lv := by
  unfold ctx; exact sep_elim_right

end Cert.Mesh

end

end
-- ==== Proof.Steps.lean ====
module

public import proofs.«01_k».proof.Proof.Proto

/-! # Running the lanes side by side

A lane is verified by itself: `Steps c l es R` says what is left of it, event after event, whatever the device owes
besides, as long as every wait is on a semaphore below what is owed. `run_steps` runs a schedule of all the lanes'
events, each event being the next one of its lane. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What an event pays off: a send, the receiver's semaphore. -/
def pay (c : Dev nD) (l : Lane) : Ev → CellTallies nD τ sig Unit
  | .rs s => tallyAt (lc (nb c l.1) l (.rsR s)) () NB
  | .ag t => tallyAt (lc (nb c l.1) l (.agR t)) () NB
  | _ => 0

/-- The level an event waits at. -/
def evLv : Ev → ℕ
  | .rw s => 2 + s.val
  | .aw t => 5 + t.val
  | _ => 0

/-- The level an event pays at; a level above all when it pays nothing. -/
def payLv : Ev → ℕ
  | .rs s => 2 + s.val
  | .ag t => 5 + t.val
  | _ => 8

/-- What a schedule pays off, on top of `O`. -/
def debt (c : Dev nD) (O : CellTallies nD τ sig Unit) : List (Lane × Ev) → CellTallies nD τ sig Unit
  | [] => O
  | e :: es => debt c O es + pay c e.1 e.2

/-- A program of device `c`. -/
abbrev wpc (c : Dev nD) {α : Type} (p : P F α) (Q : α → sProp 𝕄) : sProp 𝕄 :=
  wp frame (wpE (defs₀ (F := F)) 𝒱₀ (c : Thread nD τ) none) Set.univ p Q

/-- Event `e` of lane `l` runs, whatever device `c` owes besides above the event's level, and leaves `R`. -/
def stepSpec (c : Dev nD) (l : Lane) (e : Ev) (R : sProp 𝕄) : sProp 𝕄 :=
  iprop(∀ O : CellTallies nD τ sig Unit, ∀ W : Waits sig Unit, ⌜Above (evLv e) O⌝ -∗ owes (c : Thread nD τ) (O + pay c l e) W
    -∗ wpc c (evProg c l.1 l.2 e) (fun _ => iprop(∃ W' : Waits sig Unit, owes (c : Thread nD τ) O W' ∗ R)))

/-- The events `es` of lane `l` run one after another and leave `R`. -/
def Steps (c : Dev nD) (l : Lane) (R : sProp 𝕄) : List Ev → sProp 𝕄
  | [] => R
  | e :: es => stepSpec c l e (Steps c l R es)

theorem Steps_nil (c : Dev nD) (l : Lane) (R : sProp 𝕄) : Steps c l R [] = R := rfl
theorem Steps_cons (c : Dev nD) (l : Lane) (R : sProp 𝕄) (e : Ev) (es : List Ev) :
    Steps c l R (e :: es) = stepSpec c l e (Steps c l R es) := rfl

/-- Every wait is on a semaphore below what is still owed. -/
def Safe (c : Dev nD) (O : CellTallies nD τ sig Unit) : List (Lane × Ev) → Prop
  | [] => True
  | e :: es => Above (evLv e.2) (debt c O es) ∧ Safe c O es

theorem Above.pay {n : ℕ} (c : Dev nD) (l : Lane) (e : Ev) (h : n < payLv e) : Above n (pay c l e) := by
  cases e with
  | rs s => exact Above.tally NB (by rw [lv_lane]; exact h)
  | ag t => exact Above.tally NB (by rw [lv_lane]; exact h)
  | _ => exact Above.zero n

theorem Above.debt {n : ℕ} (c : Dev nD) {O : CellTallies nD τ sig Unit} (hO : Above n O) :
    (es : List (Lane × Ev)) → (∀ e ∈ es, n < payLv e.2) → Above n (debt c O es)
  | [], _ => hO
  | e :: es, h => Above.add (Above.debt c hO es fun e' he => h e' (List.mem_cons_of_mem _ he))
      (Above.pay c e.1 e.2 (h e List.mem_cons_self))

theorem Safe.of_pairwise (c : Dev nD) {O : CellTallies nD τ sig Unit} :
    (es : List (Lane × Ev)) → (∀ e ∈ es, Above (evLv e.2) O) → es.Pairwise (fun a b => evLv a.2 < payLv b.2) → Safe c O es
  | [], _, _ => trivial
  | e :: es, hO, h => ⟨Above.debt c (hO e List.mem_cons_self) es fun _ he => List.rel_of_pairwise_cons h he,
      Safe.of_pairwise c es (fun e' he => hO e' (List.mem_cons_of_mem _ he)) (List.Pairwise.of_cons h)⟩

theorem safe_post (c : Dev nD) : Safe c 0 post :=
  Safe.of_pairwise c post (fun _ _ => Above.zero _) (by decide +kernel)

/-- What a device owes when it has signalled: its sends. -/
def O₀ (c : Dev nD) : CellTallies nD τ sig Unit := debt c 0 post
/-- What a device owes before its second signal, and before its first. -/
def O₁ (c : Dev nD) : CellTallies nD τ sig Unit := O₀ c + tallyAt (barCell (nb c 0)) () 1
def O₂ (c : Dev nD) : CellTallies nD τ sig Unit := O₁ c + tallyAt (barCell (nb c 1)) () 1

theorem above_O₀ (c : Dev nD) : Above 1 (O₀ c) := Above.debt c (Above.zero 1) post (by decide +kernel)
theorem above_O₂ (c : Dev nD) : Above 0 (O₂ c) :=
  Above.add (Above.add (Above.debt c (Above.zero 0) post (by decide +kernel)) (Above.tally 1 (by rw [lv_bar]; decide)))
    (Above.tally 1 (by rw [lv_bar]; decide))
theorem safe_pre (c : Dev nD) : Safe c (O₂ c) pre :=
  Safe.of_pairwise c pre (fun e he => by
    have h : evLv e.2 = 0 := by revert e; decide +kernel
    rw [h]; exact above_O₂ c) (by decide +kernel)
/-- The copies into the staging buffer pay nothing. -/
theorem debt_pre (c : Dev nD) (O : CellTallies nD τ sig Unit) : debt c O pre = O := by
  have h : ∀ es : List (Lane × Ev), (∀ e ∈ es, e.2 ∈ lanePre) → debt c O es = O := by
    intro es
    induction es with
    | nil => exact fun _ => rfl
    | cons e es ih =>
      intro h
      have h0 : pay c e.1 e.2 = 0 := by
        have := h e List.mem_cons_self
        obtain ⟨l, e⟩ := e
        simp only [lanePre, List.mem_cons, List.not_mem_nil, or_false] at this
        rcases this with rfl | rfl | rfl | rfl <;> rfl
      rw [debt, h0, add_zero, ih fun e' he => h e' (List.mem_cons_of_mem _ he)]
  exact h pre (by decide +kernel)

theorem laneOf_cons_self (l : Lane) (e : Ev) (es : List (Lane × Ev)) : laneOf l ((l, e) :: es) = e :: laneOf l es := by
  unfold laneOf; rw [List.filter_cons_of_pos (by simp)]; rfl
theorem laneOf_cons_ne {l l' : Lane} (h : l' ≠ l) (e : Ev) (es : List (Lane × Ev)) :
    laneOf l' ((l, e) :: es) = laneOf l' es := by
  unfold laneOf; rw [List.filter_cons_of_neg (by simpa using fun h' => h h'.symm)]

/-- A schedule runs when every lane's own events do. -/
theorem run_steps (c : Dev nD) (R : Lane → sProp 𝕄) (O : CellTallies nD τ sig Unit) (p : P F PUnit) (Q : PUnit → sProp 𝕄) :
    (es : List (Lane × Ev)) → Safe c O es → (W : Waits sig Unit) →
      iprop((bigSep Finset.univ fun l => Steps c l (R l) (laneOf l es)) ∗ owes (c : Thread nD τ) (debt c O es) W
          ∗ (∀ W' : Waits sig Unit, owes (c : Thread nD τ) O W' -∗ (bigSep Finset.univ R) -∗ wpc c p Q))
        ⊢ wpc c (runEvs c es p) Q
  | [], _, W => by
    unfold runEvs debt laneOf
    simp only [List.filter_nil, List.map_nil, Steps]
    iintro ⟨H, Ho, Hk⟩
    iapply Hk $$ Ho H
  | (l, e) :: es, hs, W => by
    obtain ⟨ha, hs⟩ := hs
    unfold runEvs wpc
    rw [wp_bind, bigSep_univ_at _ l, laneOf_cons_self, Steps_cons]
    unfold stepSpec
    iintro ⟨⟨Hl, Hrest⟩, Ho, Hk⟩
    iapply wp_wand $$ [Hl Ho]
    · ispecialize Hl $$ %(debt c O es) %W
      iapply Hl $$ [] [Ho]
      · ipureintro; exact ha
      · iexact Ho
    iintro %_ ⟨%W', Ho, Hl⟩
    iapply run_steps c R O p Q es hs W'
    isplitl [Hl Hrest]
    · rw [bigSep_univ_at _ l]
      isplitl [Hl]; · iexact Hl
      iapply (Entails.of_eq (bigSep_congr fun l' hl' => by rw [laneOf_cons_ne (Finset.ne_of_mem_erase hl')])) $$ Hrest
    isplitl [Ho]; · iexact Ho
    iexact Hk

end Cert.Mesh

end

end
-- ==== Proof.Events.lean ====
module

public import proofs.«01_k».proof.Proof.Steps

/-! # The events of a lane

What each event takes and leaves, at a symbolic device, lane and step. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD) (l : Lane)

/-- The token of the transfer that counts on a lane's semaphore. -/
abbrev tok (c : Dev nD) (l : Lane) (e : LSem) : sProp 𝕄 := dutyTok ER (lc c l e) 0 (0 : Fin 2)
/-- The device is about to wait on a lane's semaphore. -/
abbrev pos (c : Dev nD) (l : Lane) (e : LSem) : sProp 𝕄 := atPos ER (lc c l e) 0 ∅ 0
/-- The credit a wait on a lane's semaphore spends. -/
abbrev crd (c : Dev nD) (l : Lane) (e : LSem) : sProp 𝕄 := cred (tallyAt (lc c l e) () (laneAmount e))
/-- A lane's semaphore is back at zero. -/
abbrev fin (c : Dev nD) (l : Lane) (e : LSem) : sProp 𝕄 := semVal (lc c l e) 0

theorem lanePay_rsS (s : Fin 3) : lanePay m c l (.rsS s) = iprop(emp) := rfl
theorem lanePay_rsR (s : Fin 3) : lanePay m c l (.rsR s) = iprop(cAt c l.1 s l.2 (psum m l.1 (ch c l.1 (up s)) l.2 s.val)
    ∗ early l.1 (ch c l.1 (up s)) l.2 (s.val + 1) c) := rfl
theorem lanePay_agS (t : Fin 3) : lanePay m c l (.agS t)
    = vAt c l.1 (ch c l.1 (up t + 2)) l.2 fullShare.left (tot m l.1 (ch c l.1 (up t + 2)) l.2) := rfl
theorem lanePay_agR (t : Fin 3) : lanePay m c l (.agR t)
    = iprop(vAt c l.1 (ch c l.1 (up t + 3)) l.2 fullShare (tot m l.1 (ch c l.1 (up t + 3)) l.2)
      ∗ late l.1 (ch c l.1 (up t + 3)) l.2 (2 - t.val) c) := rfl
theorem lanePay_x (s : Fin 4) : lanePay m c l (.x s)
    = iprop(xPt m c l.1 (ch c l.1 s) l.2 ∗ sAt c l.1 s l.2 (xblk m c l.1 (ch c l.1 s) l.2)) := rfl
theorem lanePay_f (s : Fin 4) : lanePay m c l (.f s)
    = iprop(oAt c l.1 (ch c l.1 (s + 3)) l.2 (tot m l.1 (ch c l.1 (s + 3)) l.2)
      ∗ vAt c l.1 (ch c l.1 (s + 3)) l.2 fullShare.right (tot m l.1 (ch c l.1 (s + 3)) l.2)) := rfl

theorem duty_mem (c : Dev nD) (l : Lane) (e : LSem) : (0 : Fin 2) ∈ (Rd (F := F) m).duties (lc c l e) 0 := by
  rw [duties_lane]; exact Finset.mem_singleton_self _

/-- A wait on a lane's semaphore takes what it hands over; the semaphore is done with. -/
theorem step_wait {sp sp' : Space} {sh sh' : Shape} {el el' : EltTy} (ev : Ev) (e : LSem)
    (src : Memref sig .tc sp sh el) (dst : Memref sig .tc sp' sh' el') {hs : src.view.WordExact} {hd : dst.view.WordExact}
    (hev : evProg (F := F) c l.1 l.2 ev = Prog.lift (.waitDma2 (semOf l e) src dst hs hd)) (hp : pay c l ev = 0)
    (hl : semLv e = evLv ev) (hN : dst.view.dmaCredit = laneAmount e) (R : sProp 𝕄) :
    iprop(ctx m K ∗ crd c l e ∗ pos c l e ∗ ((lanePay m c l e ∗ fin c l e) -∗ R)) ⊢ stepSpec c l ev R := by
  unfold stepSpec wpc
  rw [hev, hp]
  simp only [Prog.lift, add_zero]
  iintro ⟨#Hctx, Hc, Hat, HR⟩ %O %W %hO Ho
  ihave ⟨#Hinv, -⟩ := (ctx_lane m K c l e) $$ Hctx
  ihave #Hlev := (ctx_lev m K) $$ Hctx
  iapply (Rounds.wp_wait_rest_token 𝒱₀ ER (Rd m) (c : Thread nD τ) none (κ := K (c, some (l, e)))
      (wpE_waitDma2_eq 𝒱₀ (c : Thread nD τ) none Set.univ) (Set.mem_univ _) () (O := O) (W := W) (R := 0) (m := 0) (T := ∅)
      (by rw [Nat.zero_add, expect_lane, hN])) $$ [Hc Ho Hat]
  · isplitr; · iexact Hinv
    rw [hN]
    isplitl [Hc]; · iexact Hc
    isplitl [Ho]; · iexact Ho
    isplitr
    · iapply (mayWait c (.dma (semOf l e)) (by rw [lv_lane, hl]; exact hO)); iexact Hlev
    iexact Hat
  iintro ⟨Ho, Hat, -, Hpay⟩
  ihave Hp := (Entails.of_eq (rest_lane m c l e)) $$ Hpay
  imod (Rounds.cell_close ER (Rd m) (Set.mem_univ (K (c, some (l, e)))) (fun h => h) (R := 0 + 1)
    (duties_later m (lc c l e))) $$ [Hat] with Hz
  · isplitr; · iexact Hinv
    iexact Hat
  rw [wp_ret]; imodintro
  iexists _
  isplitl [Ho]; · iexact Ho
  iapply HR
  isplitl [Hp] <;> iassumption

/-- A copy on the device: source and landing place come back through the semaphore, the landing place holding what the
    source held. -/
theorem step_copy {sp sp' : Space} {sh : Shape} {el : EltTy} (ev : Ev) (e : LSem)
    (src : Memref sig .tc sp sh el) (dst : Memref sig .tc sp' sh el) {hs : src.view.WordExact} {hd : dst.view.WordExact}
    {hsem : DmaTarget.Typed sp (.dma (semOf l e)) (DmaTarget.here dst : DmaTarget nD (τ := τ) sig .tc sp' sh el)}
    (hev : evProg (F := F) c l.1 l.2 ev = Prog.lift (.enqueueDma src (.here dst) (.dma (semOf l e)) hs hd hsem))
    (hp : pay c l ev = 0) (hN : dst.view.amount (.dma (semOf l e)) = laneAmount e) (q : PosShare TreeShare)
    (fs : Buf (Elt F) (src.view.loc (c : Thread nD τ)))
    (hpay : iprop(ownsTc c dst fullShare (src.view.read (Elt F) fs) ∗ (src.view.loc (c : Thread nD τ) ↦[src.view.set]{q} fs))
      ⊢ lanePay m c l e) (R : sProp 𝕄) :
    iprop(ctx m K ∗ (src.view.loc (c : Thread nD τ) ↦[src.view.set]{q} fs) ∗ ownsSatTc c dst fullShare (fun _ => True)
        ∗ tok c l e ∗ (crd c l e -∗ R)) ⊢ stepSpec c l ev R := by
  unfold stepSpec wpc
  rw [hev, hp]
  simp only [Prog.lift, add_zero]
  unfold ownsSatTc ownsSat
  iintro ⟨#Hctx, Hs, ⟨%fd, -, Hd⟩, Htok, HR⟩ %O %W %hO Ho
  ihave ⟨#Hinv, #Hr⟩ := (ctx_lane m K c l e) $$ Hctx
  iapply (Rounds.wp_copy_pointsTo 𝒱₀ ER (Rd m) (c : Thread nD τ) none (κ := K (c, some (l, e))) (fs := fs) (fd := fd)
      (duty_mem m c l e) () (laneAmount e) hN (amount_lane m c l e 0 0)
      (((sep_mono_left ((owns_intro (c : Thread nD τ) dst fullShare _).trans
        (Entails.of_eq (by rw [View.read_write_univ])))).trans hpay).trans (Entails.of_eq (payload_lane m c l e 0).symm))) $$ [Hs Hd Htok]
  · isplitr; · iexact Hinv
    isplitl [Hs]; · iexact Hs
    isplitl [Hd]; · iexact Hd
    isplitl [Htok]; · iexact Htok
    iexact Hr
  iintro Hc
  rw [wp_ret]; imodintro
  iexists _
  isplitl [Ho]; · iexact Ho
  iapply HR; iexact Hc

/-- A piece of the input is on its way into the staging buffer. -/
theorem step_xs (s : Fin 4) (R : sProp 𝕄) :
    iprop(ctx m K ∗ xPt m c l.1 (ch c l.1 s) l.2 ∗ anyS c l.1 s l.2 ∗ tok c l (.x s) ∗ (crd c l (.x s) -∗ R))
      ⊢ stepSpec c l (.xs s) R :=
  step_copy m K c l (.xs s) (.x s) (xP l.1 (ch c l.1 s) l.2) (stageP s l.1 l.2) rfl rfl (credit_stage s l.1 l.2) fullShare (xin m c) (by
    rw [lanePay_x]
    unfold xPt sAt xblk
    exact sep_comm.1) R

/-- A finished piece is on its way into the result. -/
theorem step_fl (s : Fin 4) (R : sProp 𝕄) :
    iprop(ctx m K ∗ vAt c l.1 (ch c l.1 (s + 3)) l.2 fullShare.right (tot m l.1 (ch c l.1 (s + 3)) l.2)
        ∗ anyO c l.1 (ch c l.1 (s + 3)) l.2 ∗ tok c l (.f s) ∗ (crd c l (.f s) -∗ R))
      ⊢ stepSpec c l (.fl s) R := by
  iintro ⟨#Hctx, Hv, Ho, Ht, HR⟩
  unfold vAt ownsTc owns anyO
  icases Hv with ⟨%f, %hf, Hv⟩
  iapply (step_copy m K c l (.fl s) (.f s) (voutP l.1 (ch c l.1 (s + 3)) l.2) (outP l.1 (ch c l.1 (s + 3)) l.2)
      rfl rfl (credit_out l.1 (ch c l.1 (s + 3)) l.2) fullShare.right f (by
    rw [lanePay_f]
    unfold oAt vAt ownsTc
    rw [← hf]
    exact sep_mono_right (owns_intro (c : Thread nD τ) _ _ f)) R)
  isplitr; · iexact Hctx
  isplitl [Hv]; · iexact Hv
  isplitl [Ho]; · iexact Ho
  isplitl [Ht]; · iexact Ht
  iexact HR

theorem set_stage (s : Fin 4) (d : Fin 2) (k : Fin 4) :
    stageM.view.setOn (rectS s d k).toLoadRect.set = (stageP s d k).view.set :=
  (View.set_slice _ _).symm.trans (View.set_reshape _ _).symm
theorem set_comm (d : Fin 2) (s : Fin 3) (k : Fin 4) :
    (commM d).view.setOn (rectC s k).toLoadRect.set = (commP d s k).view.set :=
  (View.set_slice _ _).symm.trans (View.set_reshape _ _).symm

/-- Reading a staged piece. -/
theorem load_stage (s : Fin 4) (d : Fin 2) (k : Fin 4) (v : FVec F S128x2048 .f32) (p : Vec F S1x1x128x2048 .f32 → P F PUnit)
    (Q : PUnit → sProp 𝕄) :
    iprop(sAt c d s k v ∗ (∀ f : (cc0_scratch3 : Ref sig .tc).ty.Contents (Elt F), ⌜(stageP s d k).view.read (Elt F) f = v⌝
        -∗ sAt c d s k v -∗ wpc c (p (stageM.view.readAt (Elt F) (rectS s d k).toLoadRect f)) Q))
      ⊢ wpc c (loadS s d k >>= p) Q := by
  unfold sAt ownsTc owns
  iintro ⟨⟨%f, %hf, H⟩, Hk⟩
  have hl : ((stageP s d k).view.loc (c : Thread nD τ) ↦[(stageP s d k).view.set]{fullShare} f : sProp 𝕄) ⊢ _ := wp_load (Γ := .empty) (defs := defs₀ (F := F)) (Q := Q) (k := p) (q := fullShare) (f := f) 𝒱₀ (c : Thread nD τ) none Set.univ
    (m := stageM) (hl := View.loadsAt_vmem h_S1x1x128x2048) (set_stage s d k).subset
  ihave H := hl $$ H
  iapply H
  iintro H
  iapply Hk $$ %f [] [H]
  · ipureintro; exact hf
  · iexists f; isplitr; · ipureintro; exact hf
    iexact H

/-- Reading a received piece. -/
theorem load_comm (d : Fin 2) (s : Fin 3) (k : Fin 4) (v : FVec F S128x2048 .bf16) (p : Vec F S1x128x2048 .bf16 → P F PUnit)
    (Q : PUnit → sProp 𝕄) :
    iprop(cAt c d s k v ∗ (∀ f : CommC F d, ⌜(commP d s k).view.read (Elt F) f = v⌝
        -∗ cAt c d s k v -∗ wpc c (p ((commM d).view.readAt (Elt F) (rectC s k).toLoadRect f)) Q))
      ⊢ wpc c (loadC d s k >>= p) Q := by
  unfold cAt ownsTc owns
  iintro ⟨⟨%f, %hf, H⟩, Hk⟩
  have hl : ((commP d s k).view.loc (c : Thread nD τ) ↦[(commP d s k).view.set]{fullShare} f : sProp 𝕄) ⊢ _ :=
    wp_load (Γ := .empty) (defs := defs₀ (F := F)) (Q := Q) (k := p) (q := fullShare) (f := f) 𝒱₀ (c : Thread nD τ) none Set.univ
      (m := commM d) (hl := View.loadsAt_vmem h_S1x128x2048) (set_comm d s k).subset
  ihave H := hl $$ H
  iapply H
  iintro H
  iapply Hk $$ %f [] [H]
  · ipureintro; exact hf
  · iexists f; isplitr; · ipureintro; exact hf
    iexact H

theorem set_vout (d : Fin 2) (X k : Fin 4) : voutM.view.setOn (rectV d X k).toLoadRect.set = (voutP d X k).view.set :=
  (View.set_slice _ _).symm

/-- A piece of the working buffer is read, which nothing depends on, and written. -/
theorem store_vout (d : Fin 2) (X k : Fin 4) (w : FVec F S128x2048 .bf16) (Q : PUnit → sProp 𝕄) :
    iprop(anyV c d X k ∗ (vAt c d X k fullShare w -∗ Q ⟨⟩)) ⊢ wpc c (loadV d X k >>= fun _ => storeV d X k w) Q := by
  unfold anyV ownsSatTc ownsSat vAt ownsTc
  iintro ⟨⟨%f, -, H⟩, Hk⟩
  have hl : ((voutP d X k).view.loc (c : Thread nD τ) ↦[(voutP d X k).view.set]{fullShare} f : sProp 𝕄) ⊢ _ :=
    wp_load (Γ := .empty) (defs := defs₀ (F := F)) (Q := Q) (k := fun _ => storeV d X k w) (q := fullShare) (f := f) 𝒱₀
      (c : Thread nD τ) none Set.univ (m := voutM) (hl := View.loadsAt_vmem h_S128x2048) (set_vout d X k).subset
  have hs : (voutM.view.loc (c : Thread nD τ) ↦[(voutP d X k).view.set]{fullShare} f : sProp 𝕄) ⊢ _ :=
    wp_store (Γ := .empty) (defs := defs₀ (F := F)) (Q := Q) (k := .ret) (f := f) (w := w) (r := rectV d X k) 𝒱₀
      (c : Thread nD τ) none Set.univ (m := voutM) (Mk := Finset.univ)
      (hx := View.stores_vmem h_S128x2048 ((Memref.isWhole_whole cc0_scratch0).storeExact_slice rfl _ (packedV d X k)) (fun _ => rfl))
      (hm := .inl rfl) (S := (voutP d X k).view.set) subset_rfl
  ihave H := hl $$ H
  iapply H
  iintro H
  ihave H := hs $$ H
  iapply H
  iintro H
  rw [wp_ret]; imodintro
  iapply Hk
  iapply (show ((voutP d X k).view.loc (c : Thread nD τ) ↦[(voutP d X k).view.set]{fullShare}
      ((voutM.access (rectV d X k) : View sig .tc _ _ _).write (Elt F) f w Finset.univ) : sProp 𝕄)
        ⊢ owns (c : Thread nD τ) (voutP d X k) fullShare w from
    (owns_intro (c : Thread nD τ) (voutP d X k) fullShare _).trans (Entails.of_eq (congrArg _ (read_store d X k f w))))
  iexact H

/-- The device's own chunk, rounded, starts the reduction. -/
theorem step_own (R : sProp 𝕄) :
    iprop(sAt c l.1 3 l.2 (xblk m c l.1 (ch c l.1 3) l.2) ∗ anyV c l.1 (ch c l.1 3) l.2
        ∗ ((sAt c l.1 3 l.2 (xblk m c l.1 (ch c l.1 3) l.2)
            ∗ vAt c l.1 (ch c l.1 3) l.2 fullShare (psum m l.1 (ch c l.1 3) l.2 0)) -∗ R))
      ⊢ stepSpec c l .own R := by
  unfold stepSpec evProg pay
  simp only [add_zero]
  iintro ⟨Hs, Hv, HR⟩ %O %W %hO Ho
  iapply load_stage
  isplitl [Hs]; · iexact Hs
  iintro %f %hf Hs
  rw [payOwn_read, hf]
  iapply store_vout
  isplitl [Hv]; · iexact Hv
  iintro Hv
  iexists _
  isplitl [Ho]; · iexact Ho
  iapply HR
  isplitl [Hs]; · iexact Hs
  rw [psum, dv_own]
  iexact Hv

/-- The device's chunk, rounded, is added to what it received. -/
theorem step_add (s : Fin 3) (R : sProp 𝕄) :
    iprop(sAt c l.1 (up s) l.2 (xblk m c l.1 (ch c l.1 (up s)) l.2)
        ∗ cAt c l.1 s l.2 (psum m l.1 (ch c l.1 (up s)) l.2 s.val) ∗ anyV c l.1 (ch c l.1 (up s)) l.2
        ∗ ((sAt c l.1 (up s) l.2 (xblk m c l.1 (ch c l.1 (up s)) l.2)
            ∗ cAt c l.1 s l.2 (psum m l.1 (ch c l.1 (up s)) l.2 s.val)
            ∗ vAt c l.1 (ch c l.1 (up s)) l.2 fullShare (psum m l.1 (ch c l.1 (up s)) l.2 (s.val + 1))) -∗ R))
      ⊢ stepSpec c l (.add s) R := by
  unfold stepSpec evProg pay
  simp only [add_zero]
  iintro ⟨Hs, Hc, Hv, HR⟩ %O %W %hO Ho
  iapply load_stage
  isplitl [Hs]; · iexact Hs
  iintro %f %hf Hs
  iapply load_comm
  isplitl [Hc]; · iexact Hc
  iintro %g %hg Hc
  rw [payAdd_read, hf, hg]
  iapply store_vout
  isplitl [Hv]; · iexact Hv
  iintro Hv
  iexists _
  isplitl [Ho]; · iexact Ho
  iapply HR
  isplitl [Hs]; · iexact Hs
  isplitl [Hc]; · iexact Hc
  rw [psum, dv_recv]
  iexact Hv

theorem ch_send (c : Dev nD) (d : Fin 2) (s : Fin 3) : ch (nb c d) d (up s) = ch c d (up s + 3) := by revert c d s; decide
theorem ch_gather (c : Dev nD) (d : Fin 2) (t : Fin 3) : ch (nb c d) d (up t + 3) = ch c d (up t + 2) := by revert c d t; decide

/-- A send to the neighbour: the landing place and `X` go to the receiver, the source to the receiver (`b`) or back. -/
theorem step_send (b : Bool) {sp sp' : Space} {sh : Shape} {el : EltTy} (ev : Ev) (e e' : LSem)
    (src : Memref sig .tc sp sh el) (dst : Memref sig .tc sp' sh el) {hs : src.view.WordExact} {hd : dst.view.WordExact}
    {hsc : dst.view.ref.isScScratch = false}
    {hsem : DmaTarget.Typed sp (.dma (semOf l e')) (DmaTarget.remote (nb c l.1 : Thread nD τ) dst (.dma (semOf l e)) hsc :
      DmaTarget nD (τ := τ) sig .tc sp' sh el)}
    (hev : evProg (F := F) c l.1 l.2 ev
      = Prog.lift (.enqueueDma src (.remote (nb c l.1 : Thread nD τ) dst (.dma (semOf l e)) hsc) (.dma (semOf l e')) hs hd hsem))
    (hp : pay c l ev = tallyAt (lc (nb c l.1) l e') () NB) (hN : dst.view.amount (.dma (semOf l e')) = NB)
    (h1 : laneAmount e = NB) (h2 : laneAmount e' = NB) (q : PosShare TreeShare)
    (fs : Buf (Elt F) (src.view.loc (c : Thread nD τ))) (X : sProp 𝕄)
    (hpay : (bif b then iprop(emp) else (src.view.loc (c : Thread nD τ) ↦[src.view.set]{q} fs)) ⊢ lanePay m c l e)
    (hpay' : (bif b then iprop((ownsTc (nb c l.1) dst fullShare (src.view.read (Elt F) fs) ∗ X)
        ∗ (src.view.loc (c : Thread nD τ) ↦[src.view.set]{q} fs))
      else iprop(ownsTc (nb c l.1) dst fullShare (src.view.read (Elt F) fs) ∗ X)) ⊢ lanePay m (nb c l.1) l e') (R : sProp 𝕄) :
    iprop(ctx m K ∗ (src.view.loc (c : Thread nD τ) ↦[src.view.set]{q} fs) ∗ ownsSatTc (nb c l.1) dst fullShare (fun _ => True)
        ∗ X ∗ tok c l e ∗ tok (nb c l.1) l e' ∗ (crd c l e -∗ R)) ⊢ stepSpec c l ev R := by
  unfold stepSpec wpc
  rw [hev, hp]
  unfold Prog.lift ownsSatTc ownsSat
  iintro ⟨#Hctx, Hs, ⟨%fd, -, Hd⟩, HX, Ht1, Ht2, HR⟩ %O %W %hO Ho
  ihave ⟨#Hinv1, #Hr1⟩ := (ctx_lane m K c l e) $$ Hctx
  ihave ⟨#Hinv2, #Hr2⟩ := (ctx_lane m K (nb c l.1) l e') $$ Hctx
  have hown : iprop((dst.view.loc (nb c l.1 : Thread nD τ) ↦[dst.view.set]{fullShare}
      (dst.view.write (Elt F) fd (src.view.read (Elt F) fs) Finset.univ)) ∗ X)
        ⊢ (iprop(ownsTc (nb c l.1) dst fullShare (src.view.read (Elt F) fs) ∗ X) : sProp 𝕄) :=
    sep_mono_left ((owns_intro (nb c l.1 : Thread nD τ) dst fullShare _).trans (Entails.of_eq (by rw [View.read_write_univ])))
  iapply (Rounds.wp_send_bif 𝒱₀ ER (Rd m) (c : Thread nD τ) none (κ₁ := K (c, some (l, e)))
      (κ₂ := K (nb c l.1, some (l, e'))) (fs := fs)
      (R := iprop((dst.view.loc (nb c l.1 : Thread nD τ) ↦[dst.view.set]{fullShare}
        (dst.view.write (Elt F) fd (src.view.read (Elt F) fs) Finset.univ)) ∗ X)) b
      (duty_mem m c l e) (duty_mem m (nb c l.1) l e') () () NB hN
      ((amount_lane m c l e 0 0).trans h1) ((amount_lane m (nb c l.1) l e' 0 0).trans h2) O rfl
      (hpay.trans (Entails.of_eq (payload_lane m c l e 0).symm))
      (BIBase.Entails.trans (by
        cases b
        · exact hown
        · exact sep_mono_left hown) (hpay'.trans (Entails.of_eq (payload_lane m (nb c l.1) l e' 0).symm)))) $$ [Hs Hd HX Ho Ht1 Ht2]
  · isplitr; · iexact Hinv1
    isplitr; · iexact Hinv2
    isplitl [Hs]; · iexact Hs
    isplitl [Hd HX]
    · iapply ((sep_mono_left (pointsTo_writeUpdate (nb c l.1 : Thread nD τ) (v := dst.view) subset_rfl)).trans
        (writeUpdate_frame (nb c l.1 : Thread nD τ)))
      isplitl [Hd]; · iexact Hd
      iexact HX
    isplitl [Ho]; · iexact Ho
    isplitl [Ht1]; · iexact Ht1
    isplitr; · iexact Hr1
    isplitl [Ht2]; · iexact Ht2
    iexact Hr2
  iintro ⟨Hc, Ho⟩
  rw [wp_ret]; imodintro
  iexists _
  isplitl [Ho]; · iexact Ho
  iapply HR; unfold crd; rw [h1]; iexact Hc

/-- The sum of a step goes to the neighbour, and with it the pieces of its chunk of the devices it has visited. -/
theorem step_rs (s : Fin 3) (R : sProp 𝕄) :
    iprop(ctx m K ∗ vAt c l.1 (ch c l.1 (up s + 3)) l.2 fullShare (psum m l.1 (ch c l.1 (up s + 3)) l.2 s.val)
        ∗ early l.1 (ch c l.1 (up s + 3)) l.2 s.val c ∗ anyC (nb c l.1) l.1 s l.2
        ∗ tok c l (.rsS s) ∗ tok (nb c l.1) l (.rsR s) ∗ (crd c l (.rsS s) -∗ R))
      ⊢ stepSpec c l (.rs s) R := by
  iintro ⟨#Hctx, Hv, He, Hd, Ht1, Ht2, HR⟩
  unfold vAt ownsTc owns anyC
  icases Hv with ⟨%fs, %hfs, Hv⟩
  iapply (step_send m K c l true (.rs s) (.rsS s) (.rsR s) (voutP l.1 (ch c l.1 (up s + 3)) l.2) (commP l.1 s l.2)
    rfl rfl (credit_comm l.1 s l.2) rfl rfl fullShare fs (early l.1 (ch c l.1 (up s + 3)) l.2 s.val c)
    (Entails.of_eq (lanePay_rsS m c l s).symm) (by
      rw [lanePay_rsR, ch_send, early, pv_nb, hfs]
      unfold cAt anyV ownsTc ownsSatTc
      dsimp only [cond_true]
      iintro ⟨⟨Hd, He⟩, Hs⟩
      isplitl [Hd]; · iexact Hd
      isplitl [Hs]
      · iapply (ownsSat_of (c : Thread nD τ) (voutP l.1 (ch c l.1 (up s + 3)) l.2) fullShare trivial) $$ Hs
      iexact He) R)
  isplitr; · iexact Hctx
  isplitl [Hv]; · iexact Hv
  isplitl [Hd]; · iexact Hd
  isplitl [He]; · iexact He
  isplitl [Ht1]; · iexact Ht1
  isplitl [Ht2]; · iexact Ht2
  iexact HR

/-- A piece of the working buffer, held in two halves: what is sent is read from one of them. -/
theorem vAt_halves (d : Fin 2) (X k : Fin 4) (v : FVec F S128x2048 .bf16) :
    (vAt c d X k fullShare v : sProp 𝕄) ⊢ iprop(∃ f : Buf (Elt F) ((voutP d X k).view.loc (c : Thread nD τ)),
      ⌜(voutP d X k).view.read (Elt F) f = v⌝
        ∗ ((voutP d X k).view.loc (c : Thread nD τ) ↦[(voutP d X k).view.set]{fullShare.left} f) ∗ vAt c d X k fullShare.right v) := by
  unfold vAt ownsTc
  iintro Hv
  ihave ⟨Hv, Hv'⟩ := (owns_halves (c : Thread nD τ) (voutP d X k) fullShare v).1 $$ Hv
  unfold owns
  icases Hv with ⟨%f, %hf, Hv⟩
  iexists f
  isplitr; · ipureintro; exact hf
  isplitl [Hv]; · iexact Hv
  iexact Hv'

theorem evProg_ag (t : Fin 3) : evProg (F := F) c l.1 l.2 (.ag t)
    = Prog.lift (.enqueueDma (voutP l.1 (ch c l.1 (up t + 2)) l.2) (.remote (nb c l.1 : Thread nD τ)
        (voutP l.1 (ch c l.1 (up t + 2)) l.2) (.dma (semOf l (.agS t))) rfl) (.dma (semOf l (.agR t)))
        (wordV _ _ _) (wordV _ _ _) ⟨⟨rfl, Or.inl rfl⟩, trivial⟩) := rfl
theorem pay_ag (t : Fin 3) : pay c l (.ag t) = tallyAt (lc (nb c l.1) l (.agR t)) () NB := rfl
theorem laneAmount_agS (t : Fin 3) : laneAmount (.agS t) = NB := rfl
theorem laneAmount_agR (t : Fin 3) : laneAmount (.agR t) = NB := rfl

theorem pay_gather (t : Fin 3) {f : Buf (Elt F) ((voutP l.1 (ch c l.1 (up t + 2)) l.2).view.loc (c : Thread nD τ))}
    (hf : (voutP l.1 (ch c l.1 (up t + 2)) l.2).view.read (Elt F) f = tot m l.1 (ch c l.1 (up t + 2)) l.2) :
    iprop(ownsTc (nb c l.1) (voutP l.1 (ch c l.1 (up t + 2)) l.2) fullShare
        ((voutP l.1 (ch c l.1 (up t + 2)) l.2).view.read (Elt F) f)
      ∗ late l.1 (ch c l.1 (up t + 2)) l.2 (2 - t.val) (nb c l.1)) ⊢ lanePay m (nb c l.1) l (.agR t) := by
  rw [lanePay_agR, ch_gather, hf]
  exact BIBase.Entails.rfl

theorem pay_back (t : Fin 3) {f : Buf (Elt F) ((voutP l.1 (ch c l.1 (up t + 2)) l.2).view.loc (c : Thread nD τ))}
    (hf : (voutP l.1 (ch c l.1 (up t + 2)) l.2).view.read (Elt F) f = tot m l.1 (ch c l.1 (up t + 2)) l.2) :
    ((voutP l.1 (ch c l.1 (up t + 2)) l.2).view.loc (c : Thread nD τ)
      ↦[(voutP l.1 (ch c l.1 (up t + 2)) l.2).view.set]{fullShare.left} f) ⊢ lanePay m c l (.agS t) := by
  rw [lanePay_agS]
  unfold vAt ownsTc
  rw [← hf]
  exact owns_intro (c : Thread nD τ) (voutP l.1 (ch c l.1 (up t + 2)) l.2) fullShare.left f

/-- A finished piece goes to the neighbour, into its own piece, and with it the pieces of its chunk it is still to visit. -/
theorem step_ag (t : Fin 3) (R : sProp 𝕄) :
    iprop(ctx m K ∗ vAt c l.1 (ch c l.1 (up t + 2)) l.2 fullShare (tot m l.1 (ch c l.1 (up t + 2)) l.2)
        ∗ late l.1 (ch c l.1 (up t + 2)) l.2 (2 - t.val + 1) c
        ∗ tok c l (.agS t) ∗ tok (nb c l.1) l (.agR t)
        ∗ ((crd c l (.agS t) ∗ vAt c l.1 (ch c l.1 (up t + 2)) l.2 fullShare.right (tot m l.1 (ch c l.1 (up t + 2)) l.2)) -∗ R))
      ⊢ stepSpec c l (.ag t) R := by
  rw [late]
  unfold anyV
  iintro ⟨#Hctx, Hv, ⟨Hd, He⟩, Ht1, Ht2, HR⟩
  ihave ⟨%fs, %hfs, Hv, Hv'⟩ := (vAt_halves c l.1 (ch c l.1 (up t + 2)) l.2 _) $$ Hv
  have h := step_send m K c l false (.ag t) (.agS t) (.agR t) (voutP l.1 (ch c l.1 (up t + 2)) l.2)
    (voutP l.1 (ch c l.1 (up t + 2)) l.2) (evProg_ag c l t) (pay_ag c l t) (credit_vout l.1 (ch c l.1 (up t + 2)) l.2)
    (laneAmount_agS t) (laneAmount_agR t) fullShare.left fs (late l.1 (ch c l.1 (up t + 2)) l.2 (2 - t.val) (nb c l.1))
    (pay_back m c l t hfs) (pay_gather m c l t hfs) R
  iapply h
  isplitr; · iexact Hctx
  isplitl [Hv]; · iexact Hv
  isplitl [Hd]; · iexact Hd
  isplitl [He]; · iexact He
  isplitl [Ht1]; · iexact Ht1
  isplitl [Ht2]; · iexact Ht2
  iintro Hc
  iapply HR
  isplitl [Hc]; · iexact Hc
  iexact Hv'

/-! ## The waits -/

theorem step_xw (s : Fin 4) (R : sProp 𝕄) :
    iprop(ctx m K ∗ crd c l (.x s) ∗ pos c l (.x s) ∗ ((lanePay m c l (.x s) ∗ fin c l (.x s)) -∗ R)) ⊢ stepSpec c l (.xw s) R :=
  step_wait m K c l (.xw s) (.x s) (xP l.1 (ch c l.1 s) l.2) (stageP s l.1 l.2) rfl rfl rfl (credit_stage s l.1 l.2) R
theorem step_rw (s : Fin 3) (R : sProp 𝕄) :
    iprop(ctx m K ∗ crd c l (.rsR s) ∗ pos c l (.rsR s) ∗ ((lanePay m c l (.rsR s) ∗ fin c l (.rsR s)) -∗ R)) ⊢ stepSpec c l (.rw s) R :=
  step_wait m K c l (.rw s) (.rsR s) (voutP l.1 0 l.2) (commP l.1 s l.2) rfl rfl rfl (credit_comm l.1 s l.2) R
theorem step_aw (t : Fin 3) (R : sProp 𝕄) :
    iprop(ctx m K ∗ crd c l (.agR t) ∗ pos c l (.agR t) ∗ ((lanePay m c l (.agR t) ∗ fin c l (.agR t)) -∗ R)) ⊢ stepSpec c l (.aw t) R :=
  step_wait m K c l (.aw t) (.agR t) (voutP l.1 (ch c l.1 (up t + 3)) l.2) (voutP l.1 (ch c l.1 (up t + 3)) l.2) rfl rfl rfl
    (credit_vout _ _ _) R
theorem step_fw (s : Fin 4) (R : sProp 𝕄) :
    iprop(ctx m K ∗ crd c l (.f s) ∗ pos c l (.f s) ∗ ((lanePay m c l (.f s) ∗ fin c l (.f s)) -∗ R)) ⊢ stepSpec c l (.fw s) R :=
  step_wait m K c l (.fw s) (.f s) (voutP l.1 (ch c l.1 (s + 3)) l.2) (outP l.1 (ch c l.1 (s + 3)) l.2) rfl rfl rfl
    (credit_out _ _ _) R
theorem step_rsw (s : Fin 3) (R : sProp 𝕄) :
    iprop(ctx m K ∗ crd c l (.rsS s) ∗ pos c l (.rsS s) ∗ ((lanePay m c l (.rsS s) ∗ fin c l (.rsS s)) -∗ R)) ⊢ stepSpec c l (.rsw s) R :=
  step_wait m K c l (.rsw s) (.rsS s) (commP l.1 s l.2) (voutP l.1 0 l.2) rfl rfl rfl (credit_vout _ _ _) R
theorem step_agw (t : Fin 3) (R : sProp 𝕄) :
    iprop(ctx m K ∗ crd c l (.agS t) ∗ pos c l (.agS t) ∗ ((lanePay m c l (.agS t) ∗ fin c l (.agS t)) -∗ R)) ⊢ stepSpec c l (.agw t) R :=
  step_wait m K c l (.agw t) (.agS t) (voutP l.1 0 l.2) (voutP l.1 0 l.2) rfl rfl rfl (credit_vout _ _ _) R

end Cert.Mesh

end

end
-- ==== Proof.Lane.lean ====
module

public import proofs.«01_k».proof.Proof.Events

/-! # One lane from its start to its end

The events of `Proof.Events` one after another, at a symbolic device and lane. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD) (l : Lane)

/-! ## The events at the chunk they are on -/

theorem step_add_at (s : Fin 3) (j : Fin 4) (n : ℕ) (hj : up s = j) (hn : s.val = n) (R : sProp 𝕄) :
    iprop(sAt c l.1 j l.2 (xblk m c l.1 (ch c l.1 j) l.2) ∗ cAt c l.1 s l.2 (psum m l.1 (ch c l.1 j) l.2 n)
        ∗ anyV c l.1 (ch c l.1 j) l.2
        ∗ ((sAt c l.1 j l.2 (xblk m c l.1 (ch c l.1 j) l.2) ∗ cAt c l.1 s l.2 (psum m l.1 (ch c l.1 j) l.2 n)
            ∗ vAt c l.1 (ch c l.1 j) l.2 fullShare (psum m l.1 (ch c l.1 j) l.2 (n + 1))) -∗ R))
      ⊢ stepSpec c l (.add s) R := by
  subst hj hn; exact step_add m c l s R

theorem step_rs_at (s : Fin 3) (j : Fin 4) (n : ℕ) (hj : up s + 3 = j) (hn : s.val = n) (R : sProp 𝕄) :
    iprop(ctx m K ∗ vAt c l.1 (ch c l.1 j) l.2 fullShare (psum m l.1 (ch c l.1 j) l.2 n)
        ∗ early l.1 (ch c l.1 j) l.2 n c ∗ anyC (nb c l.1) l.1 s l.2
        ∗ tok c l (.rsS s) ∗ tok (nb c l.1) l (.rsR s) ∗ (crd c l (.rsS s) -∗ R))
      ⊢ stepSpec c l (.rs s) R := by
  subst hj hn; exact step_rs m K c l s R

theorem step_rw_at (s : Fin 3) (j : Fin 4) (n : ℕ) (hj : up s = j) (hn : s.val = n) (R : sProp 𝕄) :
    iprop(ctx m K ∗ crd c l (.rsR s) ∗ pos c l (.rsR s) ∗ (((cAt c l.1 s l.2 (psum m l.1 (ch c l.1 j) l.2 n)
        ∗ early l.1 (ch c l.1 j) l.2 (n + 1) c) ∗ fin c l (.rsR s)) -∗ R))
      ⊢ stepSpec c l (.rw s) R := by
  subst hj hn; exact step_rw m K c l s R

theorem step_ag_at (t : Fin 3) (j : Fin 4) (n : ℕ) (hj : up t + 2 = j) (hn : 2 - t.val = n) (R : sProp 𝕄) :
    iprop(ctx m K ∗ vAt c l.1 (ch c l.1 j) l.2 fullShare (tot m l.1 (ch c l.1 j) l.2) ∗ late l.1 (ch c l.1 j) l.2 (n + 1) c
        ∗ tok c l (.agS t) ∗ tok (nb c l.1) l (.agR t)
        ∗ ((crd c l (.agS t) ∗ vAt c l.1 (ch c l.1 j) l.2 fullShare.right (tot m l.1 (ch c l.1 j) l.2)) -∗ R))
      ⊢ stepSpec c l (.ag t) R := by
  subst hj hn; exact step_ag m K c l t R

theorem step_aw_at (t : Fin 3) (j : Fin 4) (n : ℕ) (hj : up t + 3 = j) (hn : 2 - t.val = n) (R : sProp 𝕄) :
    iprop(ctx m K ∗ crd c l (.agR t) ∗ pos c l (.agR t) ∗ (((vAt c l.1 (ch c l.1 j) l.2 fullShare (tot m l.1 (ch c l.1 j) l.2)
        ∗ late l.1 (ch c l.1 j) l.2 n c) ∗ fin c l (.agR t)) -∗ R))
      ⊢ stepSpec c l (.aw t) R := by
  subst hj hn; exact step_aw m K c l t R

theorem step_agw_at (t : Fin 3) (j : Fin 4) (hj : up t + 2 = j) (R : sProp 𝕄) :
    iprop(ctx m K ∗ crd c l (.agS t) ∗ pos c l (.agS t)
        ∗ ((vAt c l.1 (ch c l.1 j) l.2 fullShare.left (tot m l.1 (ch c l.1 j) l.2) ∗ fin c l (.agS t)) -∗ R))
      ⊢ stepSpec c l (.agw t) R := by
  subst hj; exact step_agw m K c l t R

theorem step_fl_at (s j : Fin 4) (hj : s + 3 = j) (R : sProp 𝕄) :
    iprop(ctx m K ∗ vAt c l.1 (ch c l.1 j) l.2 fullShare.right (tot m l.1 (ch c l.1 j) l.2)
        ∗ anyO c l.1 (ch c l.1 j) l.2 ∗ tok c l (.f s) ∗ (crd c l (.f s) -∗ R))
      ⊢ stepSpec c l (.fl s) R := by
  subst hj; exact step_fl m K c l s R

theorem step_fw_at (s j : Fin 4) (hj : s + 3 = j) (R : sProp 𝕄) :
    iprop(ctx m K ∗ crd c l (.f s) ∗ pos c l (.f s) ∗ (((oAt c l.1 (ch c l.1 j) l.2 (tot m l.1 (ch c l.1 j) l.2)
        ∗ vAt c l.1 (ch c l.1 j) l.2 fullShare.right (tot m l.1 (ch c l.1 j) l.2)) ∗ fin c l (.f s)) -∗ R))
      ⊢ stepSpec c l (.fw s) R := by
  subst hj; exact step_fw m K c l s R

theorem step_xw_at (s : Fin 4) (R : sProp 𝕄) :
    iprop(ctx m K ∗ crd c l (.x s) ∗ pos c l (.x s) ∗ (((xPt m c l.1 (ch c l.1 s) l.2
        ∗ sAt c l.1 s l.2 (xblk m c l.1 (ch c l.1 s) l.2)) ∗ fin c l (.x s)) -∗ R))
      ⊢ stepSpec c l (.xw s) R := step_xw m K c l s R

theorem step_rsw_at (s : Fin 3) (R : sProp 𝕄) :
    iprop(ctx m K ∗ crd c l (.rsS s) ∗ pos c l (.rsS s) ∗ ((emp ∗ fin c l (.rsS s)) -∗ R)) ⊢ stepSpec c l (.rsw s) R :=
  step_rsw m K c l s R

/-- The pieces a chunk has come by, seen from the device that finishes it, are the pieces it will go to. -/
theorem early_late (d : Fin 2) (X k : Fin 4) : (early d X k 3 c : sProp 𝕄) ⊢ late d X k 3 c := by
  have h1 : pv (pv (pv c d) d) d = nb c d := by revert c d; decide
  have h2 : pv (pv c d) d = nb (nb c d) d := by revert c d; decide
  have h3 : pv c d = nb (nb (nb c d) d) d := by revert c d; decide
  simp only [early, late]
  rw [h1, h2, h3]
  iintro ⟨H3, H2, H1, -⟩
  isplitl [H1]; · iexact H1
  isplitl [H2]; · iexact H2
  isplitl [H3]; · iexact H3
  iempintro

/-- A piece in two halves. -/
theorem vAt_split (d : Fin 2) (X k : Fin 4) (v : FVec F S128x2048 .bf16) :
    (vAt c d X k fullShare v : sProp 𝕄) ⊢ iprop(vAt c d X k fullShare.left v ∗ vAt c d X k fullShare.right v) := by
  unfold vAt
  exact (owns_halves (Val := Elt F) (c : Thread nD τ) (voutP d X k) fullShare v).1
theorem vAt_join (d : Fin 2) (X k : Fin 4) (v : FVec F S128x2048 .bf16) :
    iprop(vAt c d X k fullShare.left v ∗ vAt c d X k fullShare.right v) ⊢ (anyV c d X k : sProp 𝕄) := by
  unfold vAt anyV
  exact (owns_halves (Val := Elt F) (c : Thread nD τ) (voutP d X k) fullShare v).2.trans
    (ownsSat_intro (Val := Elt F) (X := v) (Φ := fun _ => True) (c : Thread nD τ) (voutP d X k) fullShare trivial)
theorem sAt_any (d : Fin 2) (s k : Fin 4) (v : FVec F S128x2048 .f32) : (sAt c d s k v : sProp 𝕄) ⊢ anyS c d s k := by
  unfold sAt anyS
  exact ownsSat_intro (Val := Elt F) (X := v) (Φ := fun _ => True) (c : Thread nD τ) (stageP s d k) fullShare trivial
theorem cAt_any (d : Fin 2) (s : Fin 3) (k : Fin 4) (v : FVec F S128x2048 .bf16) : (cAt c d s k v : sProp 𝕄) ⊢ anyC c d s k := by
  unfold cAt anyC
  exact ownsSat_intro (Val := Elt F) (X := v) (Φ := fun _ => True) (c : Thread nD τ) (commP d s k) fullShare trivial

/-! ## A lane's start and end -/

/-- The pieces of chunk `ch s` and of staging slot `s` a lane starts with. -/
def chunkIn (s : Fin 4) : sProp 𝕄 :=
  iprop(xPt m c l.1 (ch c l.1 s) l.2 ∗ anyS c l.1 s l.2 ∗ anyV c l.1 (ch c l.1 s) l.2 ∗ anyO c l.1 (ch c l.1 s) l.2)
/-- What it ends with: the result's piece holds the total. -/
def chunkOut (s : Fin 4) : sProp 𝕄 :=
  iprop(xPt m c l.1 (ch c l.1 s) l.2 ∗ anyS c l.1 s l.2 ∗ anyV c l.1 (ch c l.1 s) l.2
    ∗ oAt c l.1 (ch c l.1 s) l.2 (tot m l.1 (ch c l.1 s) l.2))
/-- What a lane starts with for a semaphore: a receiving semaphore's credit is there from the start, and the neighbour's
    token with it. -/
def semIn : LSem → sProp 𝕄
  | .rsR s => iprop(pos c l (.rsR s) ∗ tok (nb c l.1) l (.rsR s) ∗ crd c l (.rsR s))
  | .agR t => iprop(pos c l (.agR t) ∗ tok (nb c l.1) l (.agR t) ∗ crd c l (.agR t))
  | e => iprop(pos c l e ∗ tok c l e ∗ emp)

def laneIn : sProp 𝕄 := iprop((bigSep Finset.univ fun s : Fin 4 => chunkIn m c l s) ∗ bigSep Finset.univ fun e : LSem => semIn c l e)
def laneOut : sProp 𝕄 :=
  iprop((bigSep Finset.univ fun s : Fin 4 => chunkOut m c l s) ∗ (bigSep Finset.univ fun s : Fin 3 => anyC c l.1 s l.2)
    ∗ bigSep Finset.univ fun e : LSem => fin c l e)
/-- The landing places the barrier gives a lane. -/
def laneComm : sProp 𝕄 := bigSep Finset.univ fun s : Fin 3 => anyC (nb c l.1) l.1 s l.2

theorem bigSep_three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]; rfl
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]; rfl
theorem bigSep_sems (Φ : LSem → sProp 𝕄) : bigSep Finset.univ Φ
    = iprop(Φ (.x 0) ∗ Φ (.x 1) ∗ Φ (.x 2) ∗ Φ (.x 3) ∗ Φ (.rsS 0) ∗ Φ (.rsS 1) ∗ Φ (.rsS 2) ∗ Φ (.rsR 0) ∗ Φ (.rsR 1) ∗ Φ (.rsR 2)
      ∗ Φ (.agS 0) ∗ Φ (.agS 1) ∗ Φ (.agS 2) ∗ Φ (.agR 0) ∗ Φ (.agR 1) ∗ Φ (.agR 2) ∗ Φ (.f 0) ∗ Φ (.f 1) ∗ Φ (.f 2) ∗ Φ (.f 3)) := by
  rw [bigSep_univ_eq_bigSepL [.x 0, .x 1, .x 2, .x 3, .rsS 0, .rsS 1, .rsS 2, .rsR 0, .rsR 1, .rsR 2, .agS 0, .agS 1, .agS 2,
    .agR 0, .agR 1, .agR 2, .f 0, .f 1, .f 2, .f 3] (by decide) (by decide)]
  simp only [bigSepL_cons_cons, bigSepL_singleton]; rfl

set_option maxHeartbeats 4000000 in
/-- The lane runs. -/
theorem lane_run :
    iprop(ctx m K ∗ laneIn m c l)
      ⊢ Steps c l (iprop(laneComm c l -∗ Steps c l (laneOut m c l) lanePost) : sProp 𝕄) lanePre := by
  unfold laneIn laneOut laneComm lanePre lanePost
  simp only [bigSep_three, bigSep_four, bigSep_sems, semIn, chunkIn, chunkOut, Steps_cons, Steps_nil]
  iintro ⟨#Hctx, ⟨⟨X0, S0, V0, O0⟩, ⟨X1, S1, V1, O1⟩, ⟨X2, S2, V2, O2⟩, ⟨X3, S3, V3, O3⟩⟩,
    ⟨px0, tx0, -⟩, ⟨px1, tx1, -⟩, ⟨px2, tx2, -⟩, ⟨px3, tx3, -⟩,
    ⟨pS0, tS0, -⟩, ⟨pS1, tS1, -⟩, ⟨pS2, tS2, -⟩, ⟨pR0, tR0, cR0⟩, ⟨pR1, tR1, cR1⟩, ⟨pR2, tR2, cR2⟩,
    ⟨pA0, tA0, -⟩, ⟨pA1, tA1, -⟩, ⟨pA2, tA2, -⟩, ⟨pG0, tG0, cG0⟩, ⟨pG1, tG1, cG1⟩, ⟨pG2, tG2, cG2⟩,
    ⟨pf0, tf0, -⟩, ⟨pf1, tf1, -⟩, ⟨pf2, tf2, -⟩, ⟨pf3, tf3, -⟩⟩
  iapply (step_xs m K c l 3 _); iframe Hctx X3 S3 tx3; iintro cx3
  iapply (step_xs m K c l 0 _); iframe Hctx X0 S0 tx0; iintro cx0
  iapply (step_xs m K c l 1 _); iframe Hctx X1 S1 tx1; iintro cx1
  iapply (step_xs m K c l 2 _); iframe Hctx X2 S2 tx2; iintro cx2
  iintro ⟨D0, D1, D2⟩
  -- the device's own chunk
  iapply (step_xw_at m K c l 3 _); iframe Hctx cx3 px3; iintro ⟨⟨X3, S3⟩, zx3⟩
  iapply (step_own m c l _); iframe S3 V3; iintro ⟨S3, V3⟩
  iapply (step_rs_at m K c l 0 3 0 rfl rfl _); iframe Hctx V3
  isplitr; · (unfold early; iempintro)
  iframe D0 tS0 tR0; iintro cS0
  -- the reduction
  iapply (step_rw_at m K c l 0 0 0 rfl rfl _); iframe Hctx cR0 pR0; iintro ⟨⟨C0, E0⟩, zR0⟩
  iapply (step_xw_at m K c l 0 _); iframe Hctx cx0 px0; iintro ⟨⟨X0, S0⟩, zx0⟩
  iapply (step_add_at m c l 0 0 0 rfl rfl _); iframe S0 C0 V0; iintro ⟨S0, C0, V0⟩
  iapply (step_rs_at m K c l 1 0 1 rfl rfl _); iframe Hctx V0 E0 D1 tS1 tR1; iintro cS1
  iapply (step_rw_at m K c l 1 1 1 rfl rfl _); iframe Hctx cR1 pR1; iintro ⟨⟨C1, E1⟩, zR1⟩
  iapply (step_xw_at m K c l 1 _); iframe Hctx cx1 px1; iintro ⟨⟨X1, S1⟩, zx1⟩
  iapply (step_add_at m c l 1 1 1 rfl rfl _); iframe S1 C1 V1; iintro ⟨S1, C1, V1⟩
  iapply (step_rs_at m K c l 2 1 2 rfl rfl _); iframe Hctx V1 E1 D2 tS2 tR2; iintro cS2
  iapply (step_rw_at m K c l 2 2 2 rfl rfl _); iframe Hctx cR2 pR2; iintro ⟨⟨C2, E2⟩, zR2⟩
  iapply (step_xw_at m K c l 2 _); iframe Hctx cx2 px2; iintro ⟨⟨X2, S2⟩, zx2⟩
  iapply (step_add_at m c l 2 2 2 rfl rfl _); iframe S2 C2 V2; iintro ⟨S2, C2, V2⟩
  -- the gathering
  ihave L2 := (early_late c l.1 (ch c l.1 2) l.2) $$ E2
  iapply (step_ag_at m K c l 0 2 2 rfl rfl _); iframe Hctx L2 tA0 tG0
  isplitl [V2]; · (rw [tot]; iexact V2)
  iintro ⟨cA0, V2⟩
  iapply (step_fl_at m K c l 3 2 rfl _); iframe Hctx V2 O2 tf3; iintro cf3
  iapply (step_aw_at m K c l 0 3 2 rfl rfl _); iframe Hctx cG0 pG0; iintro ⟨⟨V3, L3⟩, zG0⟩
  iapply (step_ag_at m K c l 1 3 1 rfl rfl _); iframe Hctx V3 L3 tA1 tG1; iintro ⟨cA1, V3⟩
  iapply (step_fl_at m K c l 0 3 rfl _); iframe Hctx V3 O3 tf0; iintro cf0
  iapply (step_aw_at m K c l 1 0 1 rfl rfl _); iframe Hctx cG1 pG1; iintro ⟨⟨V0, L0⟩, zG1⟩
  iapply (step_ag_at m K c l 2 0 0 rfl rfl _); iframe Hctx V0 L0 tA2 tG2; iintro ⟨cA2, V0⟩
  iapply (step_fl_at m K c l 1 0 rfl _); iframe Hctx V0 O0 tf1; iintro cf1
  iapply (step_aw_at m K c l 2 1 0 rfl rfl _); iframe Hctx cG2 pG2; iintro ⟨⟨V1, -⟩, zG2⟩
  ihave ⟨V1l, V1⟩ := (vAt_split c l.1 (ch c l.1 1) l.2 _) $$ V1
  iapply (step_fl_at m K c l 2 1 rfl _); iframe Hctx V1 O1 tf2; iintro cf2
  -- the copies into the result
  iapply (step_fw_at m K c l 0 3 rfl _); iframe Hctx cf0 pf0; iintro ⟨⟨O3, V3⟩, zf0⟩
  iapply (step_fw_at m K c l 1 0 rfl _); iframe Hctx cf1 pf1; iintro ⟨⟨O0, V0⟩, zf1⟩
  iapply (step_fw_at m K c l 2 1 rfl _); iframe Hctx cf2 pf2; iintro ⟨⟨O1, V1⟩, zf2⟩
  iapply (step_fw_at m K c l 3 2 rfl _); iframe Hctx cf3 pf3; iintro ⟨⟨O2, V2⟩, zf3⟩
  -- the sends have left
  iapply (step_rsw_at m K c l 0 _); iframe Hctx cS0 pS0; iintro ⟨-, zS0⟩
  iapply (step_rsw_at m K c l 1 _); iframe Hctx cS1 pS1; iintro ⟨-, zS1⟩
  iapply (step_rsw_at m K c l 2 _); iframe Hctx cS2 pS2; iintro ⟨-, zS2⟩
  iapply (step_agw_at m K c l 0 2 rfl _); iframe Hctx cA0 pA0; iintro ⟨V2l, zA0⟩
  iapply (step_agw_at m K c l 1 3 rfl _); iframe Hctx cA1 pA1; iintro ⟨V3l, zA1⟩
  iapply (step_agw_at m K c l 2 0 rfl _); iframe Hctx cA2 pA2; iintro ⟨V0l, zA2⟩
  ihave V0 := (vAt_join c l.1 (ch c l.1 0) l.2 _) $$ [V0l V0]
  · iframe V0l V0
  ihave V1 := (vAt_join c l.1 (ch c l.1 1) l.2 _) $$ [V1l V1]
  · iframe V1l V1
  ihave V2 := (vAt_join c l.1 (ch c l.1 2) l.2 _) $$ [V2l V2]
  · iframe V2l V2
  ihave V3 := (vAt_join c l.1 (ch c l.1 3) l.2 _) $$ [V3l V3]
  · iframe V3l V3
  ihave S0 := (sAt_any c l.1 0 l.2 _) $$ S0
  ihave S1 := (sAt_any c l.1 1 l.2 _) $$ S1
  ihave S2 := (sAt_any c l.1 2 l.2 _) $$ S2
  ihave S3 := (sAt_any c l.1 3 l.2 _) $$ S3
  ihave C0 := (cAt_any c l.1 0 l.2 _) $$ C0
  ihave C1 := (cAt_any c l.1 1 l.2 _) $$ C1
  ihave C2 := (cAt_any c l.1 2 l.2 _) $$ C2
  iframe

end Cert.Mesh

end

end
-- ==== Proof.Device.lean ====
module

public import proofs.«01_k».proof.Proof.Lane

/-! # One device from its start to its end

The lanes run up to the barrier, the device signals both neighbours and waits for both, and the lanes run to their
ends. With a signal a device hands over its own receive buffer of the direction the neighbour sends in. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem nb_nb_zero : nb (nb c 1) 0 = c := by revert c; decide
theorem nb_nb_one : nb (nb c 0) 1 = c := by revert c; decide

/-- The receive buffers of the two neighbours are the lanes' landing places. -/
theorem comms_lanes : iprop(comms (nb c 0) 0 ∗ comms (nb c 1) 1) ⊢ (bigSep Finset.univ fun l : Lane => laneComm c l : sProp 𝕄) := by
  rw [bigSep_univ_prod, bigSep_univ_eq_bigSepL [0, 1] (by decide) (by decide), bigSepL_cons_cons, bigSepL_singleton]
  exact .rfl

/-- The first signal: the right-hand receive buffer goes to the left neighbour. -/
theorem signal_left (W : Waits sig Unit) (p : P F PUnit) (Q : PUnit → sProp 𝕄) :
    iprop(ctx m K ∗ owes (c : Thread nD τ) (O₂ c) W ∗ dutyTok ER (barCell (nb c 1)) 0 0 ∗ comms c 0
        ∗ (owes (c : Thread nD τ) (O₁ c) W -∗ wpc c p Q))
      ⊢ wpc c (semSignalWord (nb c 1) barS 1#32 >>= fun _ => p) Q := by
  simp only [semSignalWord, Prog.lift, Prog.bind_op, Prog.bind_ret, Prog.pure_eq_ret]
  unfold O₂ wpc
  iintro ⟨#Hctx, Ho, Ht, Hc, Hk⟩
  ihave ⟨#Hinv, #Hr⟩ := (ctx_bar m K (nb c 1)) $$ Hctx
  iapply (Rounds.wp_signal 𝒱₀ ER (Rd m) (c : Thread nD τ) none (dst := (nb c 1 : Thread nD τ)) (κ := K (nb c 1, none))
      (d := 0) (by rw [duties_bar]; exact Finset.mem_univ _) ((amount_bar m (nb c 1) 0 0).trans (by decide)) () (O₁ c) rfl)
    $$ [Ho Ht Hc]
  · isplitr; · iexact Hinv
    isplitl [Ho]; · iexact Ho
    isplitl [Ht]; · iexact Ht
    isplitl [Hc]
    · rw [payload_bar, nb_nb_zero]; iexact Hc
    iexact Hr
  iexact Hk

/-- The second signal: the left-hand receive buffer goes to the right neighbour. -/
theorem signal_right (W : Waits sig Unit) (p : P F PUnit) (Q : PUnit → sProp 𝕄) :
    iprop(ctx m K ∗ owes (c : Thread nD τ) (O₁ c) W ∗ dutyTok ER (barCell (nb c 0)) 0 1 ∗ comms c 1
        ∗ (owes (c : Thread nD τ) (O₀ c) W -∗ wpc c p Q))
      ⊢ wpc c (semSignalWord (nb c 0) barS 1#32 >>= fun _ => p) Q := by
  simp only [semSignalWord, Prog.lift, Prog.bind_op, Prog.bind_ret, Prog.pure_eq_ret]
  unfold O₁ wpc
  iintro ⟨#Hctx, Ho, Ht, Hc, Hk⟩
  ihave ⟨#Hinv, #Hr⟩ := (ctx_bar m K (nb c 0)) $$ Hctx
  iapply (Rounds.wp_signal 𝒱₀ ER (Rd m) (c : Thread nD τ) none (dst := (nb c 0 : Thread nD τ)) (κ := K (nb c 0, none))
      (d := 1) (by rw [duties_bar]; exact Finset.mem_univ _) ((amount_bar m (nb c 0) 0 1).trans (by decide)) () (O₀ c) rfl)
    $$ [Ho Ht Hc]
  · isplitr; · iexact Hinv
    isplitl [Ho]; · iexact Ho
    isplitl [Ht]; · iexact Ht
    isplitl [Hc]
    · rw [payload_bar, nb_nb_one]; iexact Hc
    iexact Hr
  iexact Hk

/-- The wait for both neighbours: their receive buffers come with it, and the barrier's counter is at zero again. -/
theorem wait_both (W : Waits sig Unit) (p : P F PUnit) (Q : PUnit → sProp 𝕄) :
    iprop(ctx m K ∗ owes (c : Thread nD τ) (O₀ c) W ∗ cred (tallyAt (barCell c) () 2) ∗ atPos ER (barCell c) 0 ∅ 0
        ∗ (∀ W' : Waits sig Unit, owes (c : Thread nD τ) (O₀ c) W' -∗ (bigSep Finset.univ fun l : Lane => laneComm c l)
          -∗ semVal (barCell c) 0 -∗ wpc c p Q))
      ⊢ wpc c (semWaitWord barS 2#32 >>= fun _ => p) Q := by
  simp only [semWaitWord, Prog.lift, Prog.bind_op, Prog.bind_ret, Prog.pure_eq_ret]
  unfold wpc
  iintro ⟨#Hctx, Ho, Hc, Hat, Hk⟩
  ihave ⟨#Hinv, -⟩ := (ctx_bar m K c) $$ Hctx
  ihave #Hlev := (ctx_lev m K) $$ Hctx
  iapply (Rounds.wp_wait_rest_token 𝒱₀ ER (Rd m) (c : Thread nD τ) none (κ := K (c, none))
      (wpE_semWait_eq 𝒱₀ (c : Thread nD τ) none Set.univ) (Set.mem_univ _) () (O := O₀ c) (W := W) (R := 0) (m := 0) (T := ∅)
      (by rw [expect_bar]; decide)) $$ [Hc Ho Hat]
  · isplitr; · iexact Hinv
    isplitl [Hc]; · iexact Hc
    isplitl [Ho]; · iexact Ho
    isplitr
    · iapply (mayWait c (.reg barS) (above_O₀ c)); iexact Hlev
    iexact Hat
  iintro ⟨Ho, Hat, -, Hpay⟩
  ihave Hp := ((Entails.of_eq (rest_bar m c)).trans (comms_lanes c)) $$ Hpay
  imod (Rounds.cell_close ER (Rd m) (Set.mem_univ (K (c, none))) (fun h => h) (R := 0 + 1)
    (duties_later m (barCell c))) $$ [Hat] with Hz
  · isplitr; · iexact Hinv
    iexact Hat
  iapply Hk $$ Ho Hp Hz

/-- What everybody knows, given to each of a family. -/
theorem bigSep_with {I : Type} [Fintype I] [DecidableEq I] (R : sProp 𝕄) [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-- A family of implications meets the family of their premises. -/
theorem bigSep_give {I : Type} [Fintype I] [DecidableEq I] {Φ Ψ Ψ' : I → sProp 𝕄} (h : ∀ i, Ψ i = Ψ' i) :
    iprop((bigSep Finset.univ fun i => iprop(Φ i -∗ Ψ i)) ∗ bigSep Finset.univ Φ) ⊢ bigSep Finset.univ Ψ' := by
  rw [← bigSep_sep', ← funext h]
  exact bigSep_mono fun i _ => wand_elim_left (PROP := sProp 𝕄)

/-- What a device holds of the barrier at the start. -/
def barIn : sProp 𝕄 :=
  iprop(dutyTok ER (barCell (nb c 1)) 0 0 ∗ dutyTok ER (barCell (nb c 0)) 0 1 ∗ cred (tallyAt (barCell c) () 2)
    ∗ atPos ER (barCell c) 0 ∅ 0)

/-- The device runs its schedule. -/
theorem dev_run (W : Waits sig Unit) (Q : PUnit → sProp 𝕄) :
    iprop(ctx m K ∗ (bigSep Finset.univ fun l : Lane => laneIn m c l) ∗ comms c 0 ∗ comms c 1 ∗ barIn c
        ∗ owes (c : Thread nD τ) (O₂ c) W
        ∗ (∀ W' : Waits sig Unit, owes (c : Thread nD τ) 0 W' -∗ (bigSep Finset.univ fun l : Lane => laneOut m c l)
          -∗ semVal (barCell c) 0 -∗ Q ⟨⟩))
      ⊢ wpc c (devProg c) Q := by
  unfold devProg barIn
  iintro ⟨#Hctx, Hl, HC0, HC1, ⟨Ht0, Ht1, Hc, Hat⟩, Ho, Hk⟩
  iapply (run_steps c (fun l => iprop(laneComm c l -∗ Steps c l (laneOut m c l) lanePost)) (O₂ c) _ Q pre (safe_pre c) W)
  rw [debt_pre]
  isplitl [Hl]
  · iapply (bigSep_with (ctx m K) fun l : Lane => by rw [laneOf_pre]; exact lane_run m K c l)
    iframe Hctx Hl
  isplitl [Ho]; · iexact Ho
  iintro %W₁ Ho Hl
  iapply (signal_left m K c W₁ _ Q); iframe Hctx Ho Ht0 HC0; iintro Ho
  iapply (signal_right m K c W₁ _ Q); iframe Hctx Ho Ht1 HC1; iintro Ho
  iapply (wait_both m K c W₁ _ Q); iframe Hctx Ho Hc Hat
  iintro %W₂ Ho Hp Hz
  iapply (run_steps c (laneOut m c) 0 _ Q post (safe_post c) W₂)
  isplitl [Hl Hp]
  · iapply (bigSep_give fun l : Lane => by rw [laneOf_post])
    iframe Hl Hp
  isplitl [Ho]; · iexact Ho
  iintro %W₃ Ho Hl
  unfold wpc
  rw [wp_ret]; imodintro
  iapply Hk $$ Ho Hl Hz

end Cert.Mesh

end

end
-- ==== Proof.Credits.lean ====
module

public import proofs.«01_k».proof.Proof.Device

/-! # What the launch credits

A device owes its neighbours one transfer per send and the two signals. The credits these make, device by device, are
what the lanes' receiving semaphores and the barrier semaphore wait with. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A schedule's debt, lane by lane -/

/-- What a lane's events pay off. -/
def laneDebt (c : Dev nD) (l : Lane) (es : List Ev) : CellTallies nD τ sig Unit := (es.map (pay c l)).sum

theorem laneDebt_cons (c : Dev nD) (l l' : Lane) (e : Ev) (es : List (Lane × Ev)) :
    laneDebt c l (laneOf l ((l', e) :: es)) = laneDebt c l (laneOf l es) + if l = l' then pay c l' e else 0 := by
  by_cases h : l = l'
  · subst h
    rw [laneOf_cons_self, if_pos rfl, add_comm]
    unfold laneDebt
    rw [List.map_cons, List.sum_cons]
  · rw [laneOf_cons_ne h, if_neg h, add_zero]

theorem debt_lanes (c : Dev nD) : (es : List (Lane × Ev)) → debt c 0 es = ∑ l : Lane, laneDebt c l (laneOf l es)
  | [] => (Finset.sum_eq_zero fun _ _ => rfl).symm
  | (l', e) :: es => by
    rw [debt, debt_lanes c es, Finset.sum_congr rfl fun l _ => laneDebt_cons c l l' e es, Finset.sum_add_distrib,
      Finset.sum_ite_eq' Finset.univ l' fun _ => pay c l' e, if_pos (Finset.mem_univ _)]

/-- One send's debt. -/
abbrev due (c : Dev nD) (l : Lane) (e : LSem) : CellTallies nD τ sig Unit := tallyAt (lc (nb c l.1) l e) () NB

/-- A lane's six sends. -/
theorem laneDebt_post (c : Dev nD) (l : Lane) : laneDebt c l lanePost
    = due c l (.rsR 0) + (due c l (.rsR 1) + (due c l (.rsR 2) + (due c l (.agR 0) + (due c l (.agR 1) + due c l (.agR 2))))) := by
  simp only [laneDebt, lanePost, List.map_cons, List.map_nil, List.sum_cons, List.sum_nil, pay, add_zero, zero_add]

theorem O₂_eq : (O₂ : Dev nD → CellTallies nD τ sig Unit) = fun c =>
    (∑ l : Lane, (due c l (.rsR 0) + (due c l (.rsR 1) + (due c l (.rsR 2) + (due c l (.agR 0) + (due c l (.agR 1) + due c l (.agR 2)))))))
      + tallyAt (barCell (nb c 0)) () 1 + tallyAt (barCell (nb c 1)) () 1 := by
  funext c
  unfold O₂ O₁ O₀
  rw [debt_lanes, Finset.sum_congr rfl fun l _ => by rw [laneOf_post, laneDebt_post]]

/-! ## The credits -/

/-- What a lane's semaphore is credited at the start. -/
def crdIn (c : Dev nD) (l : Lane) : LSem → sProp 𝕄
  | .rsR s => crd c l (.rsR s)
  | .agR t => crd c l (.agR t)
  | _ => iprop(emp)

theorem cred_due (l : Lane) (e : LSem) (he : laneAmount e = NB) (c : Dev nD) :
    (Pipeline.launchCred (fun d => due d l e) c : sProp 𝕄) ⊢ crd c l e := by
  unfold crd
  rw [he]
  exact Pipeline.launchCred_tallyAt (.dma (semOf l e)) (fun d => nb d l.1) (fun d => pv d l.1) (fun d => nb_pv d l.1)
    (fun d => pv_nb d l.1) () NB c

theorem cred_bar (d : Fin 2) (c : Dev nD) :
    (Pipeline.launchCred (fun c' => tallyAt (barCell (nb c' d)) () 1) c : sProp 𝕄) ⊢ cred (tallyAt (barCell c) () 1) :=
  Pipeline.launchCred_tallyAt (.reg barS) (fun c' => nb c' d) (fun c' => pv c' d) (fun c' => nb_pv c' d)
    (fun c' => pv_nb c' d) () 1 c

theorem cred_lane (l : Lane) (c : Dev nD) :
    (Pipeline.launchCred (fun d => due d l (.rsR 0) + (due d l (.rsR 1) + (due d l (.rsR 2) + (due d l (.agR 0) + (due d l (.agR 1) + due d l (.agR 2)))))) c : sProp 𝕄)
      ⊢ bigSep Finset.univ fun e : LSem => crdIn c l e := by
  rw [Pipeline.launchCred_add, Pipeline.launchCred_add, Pipeline.launchCred_add, Pipeline.launchCred_add,
    Pipeline.launchCred_add, bigSep_sems]
  simp only [crdIn]
  iintro ⟨H0, H1, H2, H3, H4, H5⟩
  ihave H0 := (cred_due l (.rsR 0) rfl c) $$ H0
  ihave H1 := (cred_due l (.rsR 1) rfl c) $$ H1
  ihave H2 := (cred_due l (.rsR 2) rfl c) $$ H2
  ihave H3 := (cred_due l (.agR 0) rfl c) $$ H3
  ihave H4 := (cred_due l (.agR 1) rfl c) $$ H4
  ihave H5 := (cred_due l (.agR 2) rfl c) $$ H5
  iframe
  repeat (isplitr; · iempintro)
  iempintro

theorem creds (c : Dev nD) :
    (Pipeline.launchCred O₂ c : sProp 𝕄)
      ⊢ iprop((bigSep Finset.univ fun l : Lane => bigSep Finset.univ fun e : LSem => crdIn c l e)
          ∗ cred (tallyAt (barCell c) () 2)) := by
  rw [O₂_eq, Pipeline.launchCred_add, Pipeline.launchCred_add, Pipeline.launchCred_sum]
  iintro ⟨⟨Hl, H0⟩, H1⟩
  isplitl [Hl]
  · ihave Hl := (show _ ⊢ _ from bigSep_mono (s := Finset.univ) fun (l : Lane) _ => cred_lane (F := F) l c) $$ Hl
    iexact Hl
  ihave H0 := (cred_bar 0 c) $$ H0
  ihave H1 := (cred_bar 1 c) $$ H1
  rw [show (tallyAt (barCell c) () 2 : CellTallies nD τ sig Unit) = tallyAt (barCell c) () 1 + tallyAt (barCell c) () 1 from
    (tallyAt_add (barCell c) () 1 1).symm]
  iapply (cred_add _ _).2
  iframe H0 H1

end Cert.Mesh

end

end
-- ==== Proof.Rects.lean ====
module

public import proofs.«01_k».proof.Proof.Program
public import Idealize.ShloMosaic.Lib.Ring.WriteBehind

/-! # The pieces tile the buffers

A buffer's pieces are boxes of one size at multiples of it: no two meet, and every index is in one. -/

@[expose] public section

noncomputable section

namespace Cert.Mesh

open Cert.KernelIdeal Cert.KernelIdeal.Gen
open Idealize.ShloMosaic

/-- The box a piece of the result buffers is, counted in boxes. -/
def boxV (p : Lane × Fin 4) : Fin 2 → ℕ := ![p.1.1.val * 16 + p.2.val * 4 + p.1.2.val, 0]
def boxX (p : Lane × Fin 4) : Fin 3 → ℕ := ![0, p.1.1.val * 16 + p.2.val * 4 + p.1.2.val, 0]
def boxS (p : Lane × Fin 4) : Fin 4 → ℕ := ![p.2.val, p.1.1.val, p.1.2.val, 0]
def boxC (p : Fin 4 × Fin 3) : Fin 3 → ℕ := ![p.2.val, p.1.val, 0]

theorem boxV_inj : Function.Injective boxV := by
  intro p q h
  have h0 : boxV p 0 = boxV q 0 := by rw [h]
  revert h0; clear h; revert p q; decide +kernel
theorem boxX_inj : Function.Injective boxX := by
  intro p q h
  have h0 : boxX p 1 = boxX q 1 := by rw [h]
  revert h0; clear h; revert p q; decide +kernel
theorem boxS_inj : Function.Injective boxS := by
  intro p q h
  have h0 : boxS p 0 = boxS q 0 ∧ boxS p 1 = boxS q 1 ∧ boxS p 2 = boxS q 2 := by rw [h]; exact ⟨rfl, rfl, rfl⟩
  revert h0; clear h; revert p q; decide +kernel
theorem boxC_inj : Function.Injective boxC := by
  intro p q h
  have h0 : boxC p 0 = boxC q 0 ∧ boxC p 1 = boxC q 1 := by rw [h]; exact ⟨rfl, rfl⟩
  revert h0; clear h; revert p q; decide +kernel

theorem rectV_disj (p q : Lane × Fin 4) (h : p ≠ q) : Disjoint (rectV p.1.1 p.2 p.1.2).set (rectV q.1.1 q.2 q.1.2).set :=
  Ring.boxes_disjoint_of_injective (s := S4096x2048) S128x2048.size (fun p : Lane × Fin 4 => ![row p.1.1 p.2 p.1.2, 0])
    (fun p => inbV p.1.1 p.2 p.1.2) boxV (by decide +kernel) boxV_inj p q h
theorem rectX_disj (p q : Lane × Fin 4) (h : p ≠ q) : Disjoint (rectX p.1.1 p.2 p.1.2).set (rectX q.1.1 q.2 q.1.2).set :=
  Ring.boxes_disjoint_of_injective (s := S1x4096x2048) S1x128x2048.size (fun p : Lane × Fin 4 => ![0, row p.1.1 p.2 p.1.2, 0])
    (fun p => inbX p.1.1 p.2 p.1.2) boxX (by decide +kernel) boxX_inj p q h
theorem rectS_disj (p q : Lane × Fin 4) (h : p ≠ q) : Disjoint (rectS p.2 p.1.1 p.1.2).set (rectS q.2 q.1.1 q.1.2).set :=
  Ring.boxes_disjoint_of_injective (s := S4x2x512x2048) S1x1x128x2048.size
    (fun p : Lane × Fin 4 => ![p.2.val, p.1.1.val, p.1.2.val * 128, 0])
    (fun p => inbS p.2 p.1.1 p.1.2) boxS (by decide +kernel) boxS_inj p q h
theorem rectC_disj (p q : Fin 4 × Fin 3) (h : p ≠ q) : Disjoint (rectC p.2 p.1).set (rectC q.2 q.1).set :=
  Ring.boxes_disjoint_of_injective (s := S3x512x2048) S1x128x2048.size (fun p : Fin 4 × Fin 3 => ![p.2.val, p.1.val * 128, 0])
    (fun p => inbC p.2 p.1) boxC (by decide +kernel) boxC_inj p q h

/-- The piece a row is in. -/
def ofRow (n : ℕ) : Lane × Fin 4 :=
  ((⟨n / 2048 % 2, Nat.mod_lt _ (by decide)⟩, ⟨n / 128 % 4, Nat.mod_lt _ (by decide)⟩), ⟨n / 512 % 4, Nat.mod_lt _ (by decide)⟩)

theorem row_ofRow (n : ℕ) (h : n < 4096) :
    row (ofRow n).1.1 (ofRow n).2 (ofRow n).1.2 ≤ n ∧ n < row (ofRow n).1.1 (ofRow n).2 (ofRow n).1.2 + 128 := by
  unfold row ofRow; dsimp only; omega

theorem cover_of {s : Shape} {T : Type} [Fintype T] (r : T → Rect s) (h : ∀ x : s.Idx, ∃ t, x ∈ (r t).set) :
    (Finset.univ : Finset T).biUnion (fun t => (r t).set) = Finset.univ := by
  ext x
  simpa only [Finset.mem_biUnion, Finset.mem_univ, true_and, iff_true] using h x

theorem rectV_cover : (Finset.univ : Finset (Lane × Fin 4)).biUnion (fun p => (rectV p.1.1 p.2 p.1.2).set) = Finset.univ :=
  cover_of (fun p : Lane × Fin 4 => rectV p.1.1 p.2 p.1.2) fun x => by
    have h0 : (x 0).val < 4096 := (x 0).isLt
    have h1 : (x 1).val < 2048 := (x 1).isLt
    have hr := row_ofRow (x 0).val h0
    refine ⟨ofRow (x 0).val, Rect.mem_set_unit.mpr fun a => ?_⟩
    fin_cases a
    · exact hr
    · exact ⟨Nat.zero_le _, by show (x 1).val < 0 + 2048; omega⟩

theorem rectX_cover : (Finset.univ : Finset (Lane × Fin 4)).biUnion (fun p => (rectX p.1.1 p.2 p.1.2).set) = Finset.univ :=
  cover_of (fun p : Lane × Fin 4 => rectX p.1.1 p.2 p.1.2) fun x => by
    have h0 : (x 0).val < 1 := (x 0).isLt
    have h1 : (x 1).val < 4096 := (x 1).isLt
    have h2 : (x 2).val < 2048 := (x 2).isLt
    have hr := row_ofRow (x 1).val h1
    refine ⟨ofRow (x 1).val, Rect.mem_set_unit.mpr fun a => ?_⟩
    fin_cases a
    · exact ⟨Nat.zero_le _, by show (x 0).val < 0 + 1; omega⟩
    · exact hr
    · exact ⟨Nat.zero_le _, by show (x 2).val < 0 + 2048; omega⟩

theorem rectS_cover : (Finset.univ : Finset (Lane × Fin 4)).biUnion (fun p => (rectS p.2 p.1.1 p.1.2).set) = Finset.univ :=
  cover_of (fun p : Lane × Fin 4 => rectS p.2 p.1.1 p.1.2) fun x => by
    have h0 : (x 0).val < 4 := (x 0).isLt
    have h1 : (x 1).val < 2 := (x 1).isLt
    have h2 : (x 2).val < 512 := (x 2).isLt
    have h3 : (x 3).val < 2048 := (x 3).isLt
    refine ⟨((⟨(x 1).val, h1⟩, ⟨(x 2).val / 128, by omega⟩), ⟨(x 0).val, h0⟩), Rect.mem_set_unit.mpr fun a => ?_⟩
    fin_cases a
    · exact ⟨Nat.le_refl _, Nat.lt_succ_self _⟩
    · exact ⟨Nat.le_refl _, Nat.lt_succ_self _⟩
    · exact ⟨by show (x 2).val / 128 * 128 ≤ (x 2).val; omega, by show (x 2).val < (x 2).val / 128 * 128 + 128; omega⟩
    · exact ⟨Nat.zero_le _, by show (x 3).val < 0 + 2048; omega⟩

theorem rectC_cover : (Finset.univ : Finset (Fin 4 × Fin 3)).biUnion (fun p => (rectC p.2 p.1).set) = Finset.univ :=
  cover_of (fun p : Fin 4 × Fin 3 => rectC p.2 p.1) fun x => by
    have h0 : (x 0).val < 3 := (x 0).isLt
    have h1 : (x 1).val < 512 := (x 1).isLt
    have h2 : (x 2).val < 2048 := (x 2).isLt
    refine ⟨(⟨(x 1).val / 128, by omega⟩, ⟨(x 0).val, h0⟩), Rect.mem_set_unit.mpr fun a => ?_⟩
    fin_cases a
    · exact ⟨Nat.le_refl _, Nat.lt_succ_self _⟩
    · exact ⟨by show (x 1).val / 128 * 128 ≤ (x 1).val; omega, by show (x 1).val < (x 1).val / 128 * 128 + 128; omega⟩
    · exact ⟨Nat.zero_le _, by show (x 2).val < 0 + 2048; omega⟩

end Cert.Mesh

end

end
-- ==== Proof.Pieces.lean ====
module

public import proofs.«01_k».proof.Proof.Device
public import proofs.«01_k».proof.Proof.Rects

/-! # The buffers in pieces

A device's buffers, each held whole, are the pieces its lanes start with; the pieces the lanes end with are the
buffers again, the result's holding every total. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Any buffer -/

section Any

variable {sp : Space} {s : Shape} {e : EltTy} (M : Memref sig .tc sp s e)

theorem some_congr {ℓ : Loc nD τ sig} {S S' : Finset ℓ.ty.Idx} (h : S = S') :
    (iprop(∃ f : Buf (Elt F) ℓ, ⌜True⌝ ∗ (ℓ ↦[S]{fullShare} f)) : sProp 𝕄)
      = iprop(∃ f : Buf (Elt F) ℓ, ⌜True⌝ ∗ (ℓ ↦[S']{fullShare} f)) := by rw [h]

/-- A piece seen at fewer axes is the same piece. -/
theorem any_squeeze (s' : Shape) (h : s.Squeezes s') :
    (ownsSatTc c (M.squeeze s' h) fullShare (fun _ => True) : sProp 𝕄) = ownsSatTc c M fullShare fun _ => True := by
  exact some_congr (ℓ := M.view.loc (c : Thread nD τ)) (View.set_reshape (v := M.view) (s' := s') h.numel_eq)

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd hcov in
/-- A buffer holding anything is its pieces holding anything, -/
theorem any_cut : (ownsSatTc c M fullShare (fun _ => True) : sProp 𝕄)
    ⊢ bigSep Finset.univ fun t => ownsSatTc c (M.slice (r t) (hr t)) fullShare fun _ => True :=
  (ownsSat_mono (Val := Elt F) (c : Thread nD τ) M fullShare (fun _ _ _ => trivial)).trans
    (ownsSat_rects (Val := Elt F) (c : Thread nD τ) M fullShare r hr hd hcov (fun _ _ => True))

include hd hcov in
/-- and back. -/
theorem any_glue : (bigSep Finset.univ fun t => ownsSatTc c (M.slice (r t) (hr t)) fullShare fun _ => True)
    ⊢ (ownsSatTc c M fullShare (fun _ => True) : sProp 𝕄) :=
  (ownsSat_of_rects (Val := Elt F) (c : Thread nD τ) M fullShare r hr hd hcov (fun _ _ => True)).trans
    (ownsSat_mono (Val := Elt F) (c : Thread nD τ) M fullShare (fun _ _ => trivial))

include hd hcov in
/-- A buffer at known contents is its pieces at them. -/
theorem pts_cut (g : Buf (Elt F) (M.view.loc (c : Thread nD τ))) :
    (M.view.loc (c : Thread nD τ) ↦[M.view.set]{fullShare} g : sProp 𝕄)
      = bigSep Finset.univ fun t =>
          (M.view.loc (c : Thread nD τ) ↦[(M.slice (r t) (hr t)).view.set]{fullShare} g) := by
  rw [pointsTo_rects (Val := Elt F) (c : Thread nD τ) M fullShare r hr hd hcov g]
  exact bigSep_congr fun t _ => owns_slice_read (Val := Elt F) (c : Thread nD τ) M fullShare (r t) (hr t) g

end Any

/-- A whole buffer holding anything. -/
theorem any_whole (b : Ref sig .tc) :
    (ownsSatTc c (Memref.whole b) fullShare (fun _ => True) : sProp 𝕄)
      = iprop(∃ f : Buf (Elt F) ((c : Thread nD τ).loc b), ⌜True⌝ ∗ ((c : Thread nD τ).loc b ↦{fullShare} f)) := by
  unfold ownsSatTc ownsSat
  simp only [Memref.view_whole, View.set_whole]

theorem whole_any (b : Ref sig .tc) :
    iprop(∃ f : Buf (Elt F) ((c : Thread nD τ).loc b), (c : Thread nD τ).loc b ↦{fullShare} f)
      ⊢ (ownsSatTc c (Memref.whole b) fullShare (fun _ => True) : sProp 𝕄) := by
  rw [any_whole]
  iintro ⟨%f, H⟩
  iexists f
  isplitr
  · ipureintro; trivial
  iexact H
theorem any_out (b : Ref sig .tc) :
    (ownsSatTc c (Memref.whole b) fullShare (fun _ => True) : sProp 𝕄)
      ⊢ iprop(∃ f : Buf (Elt F) ((c : Thread nD τ).loc b), (c : Thread nD τ).loc b ↦{fullShare} f) := by
  rw [any_whole]
  iintro ⟨%f, -, H⟩
  iexists f
  iexact H

/-! ## The kernel's buffers -/

/-- A family over the chunks is the family over the steps. -/
theorem over_steps (d : Fin 2) (Φ : Fin 4 → sProp 𝕄) :
    bigSep Finset.univ Φ = bigSep Finset.univ fun s : Fin 4 => Φ (ch c d s) :=
  bigSep_univ_equiv (chEquiv c d) Φ

/-- A whole buffer, holding anything. -/
abbrev held (b : Ref sig .tc) : sProp 𝕄 :=
  iprop(∃ f : Buf (Elt F) ((c : Thread nD τ).loc b), (c : Thread nD τ).loc b ↦{fullShare} f)

/-- The lanes' pieces, chunk by chunk. -/
abbrev overV (Φ : Fin 2 → Fin 4 → Fin 4 → sProp 𝕄) : sProp 𝕄 :=
  bigSep Finset.univ fun l : Lane => bigSep Finset.univ fun X : Fin 4 => Φ l.1 X l.2

theorem vout_cut : (held c cc0_scratch0 : sProp 𝕄) ⊢ overV fun d X k => anyV c d X k :=
  ((whole_any c cc0_scratch0).trans (any_cut c voutM (fun p : Lane × Fin 4 => rectV p.1.1 p.2 p.1.2) (fun _ _ => rfl)
    rectV_disj rectV_cover)).trans (Entails.of_eq (bigSep_univ_prod _))
theorem vout_glue : (overV fun d X k => anyV c d X k) ⊢ (held c cc0_scratch0 : sProp 𝕄) :=
  ((Entails.of_eq (bigSep_univ_prod _).symm).trans (any_glue c voutM (fun p : Lane × Fin 4 => rectV p.1.1 p.2 p.1.2)
    (fun _ _ => rfl) rectV_disj rectV_cover)).trans (any_out c cc0_scratch0)
theorem out_cut : (held c main_v1 : sProp 𝕄) ⊢ overV fun d X k => anyO c d X k :=
  ((whole_any c main_v1).trans (any_cut c outM (fun p : Lane × Fin 4 => rectV p.1.1 p.2 p.1.2) (fun _ _ => rfl)
    rectV_disj rectV_cover)).trans (Entails.of_eq (bigSep_univ_prod _))

theorem stage_any (d : Fin 2) (s k : Fin 4) :
    (anyS c d s k : sProp 𝕄) = ownsSatTc c (stageM.slice (rectS s d k) (fun _ => rfl)) fullShare fun _ => True :=
  any_squeeze c (stageM.slice (rectS s d k) (fun _ => rfl)) S128x2048 squeezes_S1x1x128x2048_S128x2048
theorem comm_any (d : Fin 2) (s : Fin 3) (k : Fin 4) :
    (anyC c d s k : sProp 𝕄) = ownsSatTc c ((commM d).slice (rectC s k) (fun _ => rfl)) fullShare fun _ => True :=
  any_squeeze c ((commM d).slice (rectC s k) (fun _ => rfl)) S128x2048 squeezes_S1x128x2048_S128x2048

theorem stage_cut : (held c cc0_scratch3 : sProp 𝕄) ⊢ overV fun d s k => anyS c d s k := by
  simp only [overV, stage_any]
  exact ((whole_any c cc0_scratch3).trans (any_cut c stageM (fun p : Lane × Fin 4 => rectS p.2 p.1.1 p.1.2) (fun _ _ => rfl)
    rectS_disj rectS_cover)).trans (Entails.of_eq (bigSep_univ_prod _))
theorem stage_glue : (overV fun d s k => anyS c d s k) ⊢ (held c cc0_scratch3 : sProp 𝕄) := by
  simp only [overV, stage_any]
  exact ((Entails.of_eq (bigSep_univ_prod _).symm).trans (any_glue c stageM (fun p : Lane × Fin 4 => rectS p.2 p.1.1 p.1.2)
    (fun _ _ => rfl) rectS_disj rectS_cover)).trans (any_out c cc0_scratch3)

theorem comm_cut (d : Fin 2) : (ownsSatTc c (commM d) fullShare (fun _ => True) : sProp 𝕄) ⊢ comms c d := by
  unfold comms
  simp only [comm_any]
  exact (any_cut c (commM d) (fun p : Fin 4 × Fin 3 => rectC p.2 p.1) (fun _ _ => rfl) rectC_disj rectC_cover).trans
    (Entails.of_eq (bigSep_univ_prod _))
theorem comm_glue (d : Fin 2) : comms c d ⊢ (ownsSatTc c (commM d) fullShare (fun _ => True) : sProp 𝕄) := by
  unfold comms
  simp only [comm_any]
  exact (Entails.of_eq (bigSep_univ_prod _).symm).trans
    (any_glue c (commM d) (fun p : Fin 4 × Fin 3 => rectC p.2 p.1) (fun _ _ => rfl) rectC_disj rectC_cover)

/-- The input is its pieces. -/
theorem x_cut : ((c : Thread nD τ).loc main_arg0 ↦{fullShare} m ((c : Thread nD τ).loc main_arg0) : sProp 𝕄)
    = overV fun d X k => xPt m c d X k := by
  have h : ((c : Thread nD τ).loc main_arg0 ↦{fullShare} m ((c : Thread nD τ).loc main_arg0) : sProp 𝕄)
      = (xM.view.loc (c : Thread nD τ) ↦[xM.view.set]{fullShare} xin m c) :=
    (congrArg (fun S => pointsTo ((c : Thread nD τ).loc main_arg0) S fullShare (xin m c))
      (Memref.isWhole_whole main_arg0).set_eq_univ).symm
  rw [h, pts_cut c xM (fun p : Lane × Fin 4 => rectX p.1.1 p.2 p.1.2) (fun _ _ => rfl) rectX_disj rectX_cover (xin m c),
    bigSep_univ_prod]
  refine bigSep_congr fun l _ => bigSep_congr fun X _ => ?_
  unfold xPt
  exact congrArg (fun S => pointsTo (xM.view.loc (c : Thread nD τ)) S fullShare (xin m c))
    (View.set_reshape (v := (xM.slice (rectX l.1 X l.2) (fun _ => rfl)).view) (s' := S128x2048)
      squeezes_S1x128x2048_S128x2048.numel_eq).symm

/-- The result's pieces at the totals are the result at some contents that read so. -/
theorem out_glue : (overV fun d X k => oAt c d X k (tot m d X k))
    ⊢ (iprop(∃ f : Buf (Elt F) ((c : Thread nD τ).loc main_v1),
        ⌜∀ (d : Fin 2) (X k : Fin 4) (j : S128x2048.Idx), f ((rectV d X k).emb j) = tot m d X k j⌝
          ∗ ((c : Thread nD τ).loc main_v1 ↦{fullShare} f)) : sProp 𝕄) := by
  refine (Entails.of_eq (bigSep_univ_prod (fun p : Lane × Fin 4 => oAt c p.1.1 p.2 p.1.2 (tot m p.1.1 p.2 p.1.2))).symm).trans ?_
  refine (ownsSat_of_rects (Val := Elt F) (c : Thread nD τ) outM fullShare (fun p : Lane × Fin 4 => rectV p.1.1 p.2 p.1.2)
    (fun _ _ => rfl) rectV_disj rectV_cover (fun p X => X = tot m p.1.1 p.2 p.1.2)).trans ?_
  unfold ownsSat
  simp only [Memref.view_whole, View.set_whole]
  iintro ⟨%f, %h, H⟩
  iexists f
  isplitr
  · ipureintro
    intro d X k j
    exact congrFun (h ((d, k), X)) j
  iexact H

/-! ## All of a device's buffers -/

theorem overV_steps (Φ : Fin 2 → Fin 4 → Fin 4 → sProp 𝕄) :
    overV Φ = bigSep Finset.univ fun l : Lane => bigSep Finset.univ fun s : Fin 4 => Φ l.1 (ch c l.1 s) l.2 :=
  bigSep_congr fun l _ => over_steps c l.1 fun X => Φ l.1 X l.2

/-- What every lane's chunks have at the start, part by part. -/
theorem chunksIn_eq : (bigSep Finset.univ fun l : Lane => bigSep Finset.univ fun s : Fin 4 => chunkIn m c l s : sProp 𝕄)
    = iprop((overV fun d X k => xPt m c d X k) ∗ (overV fun d s k => anyS c d s k) ∗ (overV fun d X k => anyV c d X k)
      ∗ (overV fun d X k => anyO c d X k)) := by
  rw [overV_steps c fun d X k => xPt m c d X k, overV_steps c fun d X k => anyV c d X k,
    overV_steps c fun d X k => anyO c d X k]
  simp only [overV, chunkIn, bigSep_sep']
theorem chunksOut_eq : (bigSep Finset.univ fun l : Lane => bigSep Finset.univ fun s : Fin 4 => chunkOut m c l s : sProp 𝕄)
    = iprop((overV fun d X k => xPt m c d X k) ∗ (overV fun d s k => anyS c d s k) ∗ (overV fun d X k => anyV c d X k)
      ∗ (overV fun d X k => oAt c d X k (tot m d X k))) := by
  rw [overV_steps c fun d X k => xPt m c d X k, overV_steps c fun d X k => anyV c d X k,
    overV_steps c fun d X k => oAt c d X k (tot m d X k)]
  simp only [overV, chunkOut, bigSep_sep']

/-- The four scratch buffers, holding anything. -/
abbrev scratch : sProp 𝕄 :=
  iprop(held c cc0_scratch0 ∗ held c cc0_scratch1 ∗ held c cc0_scratch2 ∗ held c cc0_scratch3)

theorem bufs_in :
    iprop(scratch c ∗ ((c : Thread nD τ).loc main_arg0 ↦{fullShare} m ((c : Thread nD τ).loc main_arg0)) ∗ held c main_v1)
      ⊢ (iprop((bigSep Finset.univ fun l : Lane => bigSep Finset.univ fun s : Fin 4 => chunkIn m c l s)
          ∗ comms c 0 ∗ comms c 1) : sProp 𝕄) := by
  rw [chunksIn_eq, x_cut]
  iintro ⟨⟨H0, H1, H2, H3⟩, Hx, Ho⟩
  ihave H0 := (vout_cut c) $$ H0
  ihave H1 := ((whole_any c cc0_scratch1).trans (comm_cut c 0)) $$ H1
  ihave H2 := ((whole_any c cc0_scratch2).trans (comm_cut c 1)) $$ H2
  ihave H3 := (stage_cut c) $$ H3
  ihave Ho := (out_cut c) $$ Ho
  iframe H0 H1 H2 H3 Hx Ho

/-- The result, at some contents whose pieces are the totals. -/
def outDone : sProp 𝕄 :=
  iprop(∃ f : Buf (Elt F) ((c : Thread nD τ).loc main_v1),
    ⌜∀ (d : Fin 2) (X k : Fin 4) (j : S128x2048.Idx), f ((rectV d X k).emb j) = tot m d X k j⌝
      ∗ ((c : Thread nD τ).loc main_v1 ↦{fullShare} f))

theorem comms_own : (bigSep Finset.univ fun l : Lane => bigSep Finset.univ fun s : Fin 3 => anyC c l.1 s l.2)
    = (iprop(comms c 0 ∗ comms c 1) : sProp 𝕄) := by
  rw [bigSep_univ_prod, bigSep_univ_eq_bigSepL [0, 1] (by decide) (by decide), bigSepL_cons_cons, bigSepL_singleton]
  rfl

theorem bufs_out :
    iprop((bigSep Finset.univ fun l : Lane => bigSep Finset.univ fun s : Fin 4 => chunkOut m c l s)
        ∗ (bigSep Finset.univ fun l : Lane => bigSep Finset.univ fun s : Fin 3 => anyC c l.1 s l.2))
      ⊢ (iprop(scratch c ∗ ((c : Thread nD τ).loc main_arg0 ↦{fullShare} m ((c : Thread nD τ).loc main_arg0))
          ∗ outDone m c) : sProp 𝕄) := by
  rw [chunksOut_eq, x_cut, comms_own]
  iintro ⟨⟨Hx, H3, H0, Ho⟩, H1, H2⟩
  ihave H0 := (vout_glue c) $$ H0
  ihave H1 := ((comm_glue c 0).trans (any_out c cc0_scratch1)) $$ H1
  ihave H2 := ((comm_glue c 1).trans (any_out c cc0_scratch2)) $$ H2
  ihave H3 := (stage_glue c) $$ H3
  ihave Ho := (out_glue m c) $$ Ho
  unfold outDone
  iframe H0 H1 H2 H3 Hx Ho

end Cert.Mesh

end

end
-- ==== Proof.Fund.lean ====
module

public import proofs.«01_k».proof.Proof.Credits
public import proofs.«01_k».proof.Proof.Pieces

/-! # What the launch hands out

The launch opens the round of every semaphore of every device, and hands each device its positions and the tokens of
the contributions it makes itself: a token of a receiving semaphore goes to the neighbour that sends to it. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over a device's semaphores: the lanes', and the barrier's. -/
theorem bigSep_cells (Φ : CI → sProp 𝕄) :
    bigSep Finset.univ Φ = iprop((bigSep Finset.univ fun q : Lane × LSem => Φ (some q)) ∗ Φ none) := by
  rw [bigSep_univ_equiv (Equiv.optionEquivSumPUnit.{0, 0} (Lane × LSem)).symm, bigSep_univ_sum, Finset.univ_unique (α := PUnit),
    bigSep_singleton]
  rfl

/-! ## The semaphores and the tokens -/

theorem cellAt_injective : Function.Injective cellAt := by
  rintro ⟨c, k⟩ ⟨c', k'⟩ h
  have h1 : c = c' := by
    have := congrArg (fun g : GSem nD τ sig => g.1.1) h
    cases k <;> cases k' <;> exact this
  subst h1
  have h2 := congrArg Prod.snd h
  cases k <;> cases k'
  · rfl
  · cases h2
  · cases h2
  · injection h2 with h3
    rw [semOf_bijective.1 h3]

def cells : Finset (GSem nD τ sig) := Finset.univ.map ⟨cellAt, cellAt_injective⟩

/-- The tokens of a device's semaphores: the barrier's two, and one of each of the lanes'. -/
abbrev TI : Type := Fin 2 ⊕ (Lane × LSem)

def tokAt (p : Dev nD × TI) : GSem nD τ sig × ℕ × Fin 2 := match p.2 with
  | .inl d => (barCell p.1, 0, d)
  | .inr q => (lc p.1 q.1 q.2, 0, 0)

theorem tokAt_injective : Function.Injective tokAt := by
  rintro ⟨c, k⟩ ⟨c', k'⟩ h
  have h1 : c = c' := by
    have := congrArg (fun g : GSem nD τ sig × ℕ × Fin 2 => g.1.1.1) h
    cases k <;> cases k' <;> exact this
  subst h1
  have h2 := congrArg (fun g : GSem nD τ sig × ℕ × Fin 2 => g.1.2) h
  cases k <;> cases k'
  · exact congrArg (fun d => (c, Sum.inl d)) (congrArg (fun g : GSem nD τ sig × ℕ × Fin 2 => g.2.2) h)
  · cases h2
  · cases h2
  · injection h2 with h3
    rw [semOf_bijective.1 h3]

def cellToks : Finset (GSem nD τ sig × ℕ × Fin 2) := Finset.univ.map ⟨tokAt, tokAt_injective⟩

/-- The tokens of device `c`'s semaphores. -/
def toks (c : Dev nD) : sProp 𝕄 :=
  iprop((dutyTok ER (barCell c) 0 (0 : Fin 2) ∗ dutyTok ER (barCell c) 0 (1 : Fin 2))
    ∗ bigSep Finset.univ fun q : Lane × LSem => tok c q.1 q.2)

/-- The token of the contribution device `c` makes: to its own semaphore, or to its neighbour's. -/
def payTok (c : Dev nD) (l : Lane) : LSem → sProp 𝕄
  | .rsR s => tok (nb c l.1) l (.rsR s)
  | .agR t => tok (nb c l.1) l (.agR t)
  | e => tok c l e

/-- The tokens of the contributions device `c` makes. -/
def payToks (c : Dev nD) : sProp 𝕄 :=
  iprop((dutyTok ER (barCell (nb c 1)) 0 (0 : Fin 2) ∗ dutyTok ER (barCell (nb c 0)) 0 (1 : Fin 2))
    ∗ bigSep Finset.univ fun q : Lane × LSem => payTok c q.1 q.2)

/-- Per semaphore of a lane, the tokens of all devices are the devices' contributions. -/
theorem toks_lane (l : Lane) (e : LSem) :
    (bigSep Finset.univ fun c : Dev nD => tok c l e : sProp 𝕄) = bigSep Finset.univ fun c : Dev nD => payTok c l e := by
  cases e
  case rsR s => exact bigSep_univ_equiv (nbEquiv l.1) fun c => tok c l (.rsR s)
  case agR t => exact bigSep_univ_equiv (nbEquiv l.1) fun c => tok c l (.agR t)
  all_goals rfl

theorem toks_around :
    (bigSep Finset.univ fun c : Dev nD => toks c : sProp 𝕄) = bigSep Finset.univ fun c : Dev nD => payToks c := by
  unfold toks payToks
  rw [bigSep_sep', bigSep_sep', bigSep_sep', bigSep_sep',
    bigSep_univ_equiv (nbEquiv 1) (fun c : Dev nD => (dutyTok ER (barCell c) 0 (0 : Fin 2) : sProp 𝕄)),
    bigSep_univ_equiv (nbEquiv 0) (fun c : Dev nD => (dutyTok ER (barCell c) 0 (1 : Fin 2) : sProp 𝕄)),
    bigSep_univ_comm (fun (c : Dev nD) (q : Lane × LSem) => (tok c q.1 q.2 : sProp 𝕄)),
    bigSep_univ_comm (fun (c : Dev nD) (q : Lane × LSem) => (payTok c q.1 q.2 : sProp 𝕄)),
    bigSep_congr fun (q : Lane × LSem) _ => toks_lane q.1 q.2]
  rfl

/-! ## The launch -/

/-- What the launch deals device `c`. -/
def G (c : Dev nD) : sProp 𝕄 :=
  iprop((bigSep Finset.univ fun k : CI => roundState ER (Rd m) (cellAt (c, k)) 0)
    ∗ (bigSep Finset.univ fun k : CI => iprop(atPos ER (cellAt (c, k)) 0 ∅ 0 ∗ reached ER (cellAt (c, k)) 0)) ∗ toks c)

theorem fund_cells : BI.own (ER (initOf cells cellToks)) ⊢ (|==> bigSep Finset.univ (G m) : sProp 𝕄) := by
  have hX (Φ : GSem nD τ sig → sProp 𝕄) : bigSep cells Φ
      = bigSep Finset.univ fun c : Dev nD => bigSep Finset.univ fun k : CI => Φ (cellAt (c, k)) := by
    unfold cells; rw [bigSep_map, bigSep_univ_prod]; rfl
  have hT : bigSep cellToks (fun x => (dutyTok ER x.1 x.2.1 x.2.2 : sProp 𝕄)) = bigSep Finset.univ fun c : Dev nD => toks c := by
    unfold cellToks; rw [bigSep_map, bigSep_univ_prod]
    refine bigSep_congr fun c _ => ?_
    unfold toks
    rw [bigSep_univ_sum, bigSep_univ_eq_bigSepL (I := Fin 2) [0, 1] (by decide) (by decide), bigSepL_cons_cons, bigSepL_singleton]
    rfl
  iintro HX
  imod (Rounds.fund ER (Rd m) cells cellToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-- The lanes' semaphores are the kernel's own; -/
def osem (q : Lane × LSem) : SemLoc sig := .dma (semOf q.1 q.2)

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The lanes' semaphores of device `c`, at zero. -/
abbrev own₀ (c : Dev nD) : sProp 𝕄 :=
  Pipeline.ownSems0 (Ix := Unit) (Name := ℕ) (U := UU) (Lvl := ℕ) (Val := Elt F) (τ := τ) osem c

theorem sems0_eq (c : Dev nD) :
    (iprop(own₀ c ∗ unscopedSems0 c) : sProp 𝕄) = bigSep Finset.univ fun k : CI => semVal (cellAt (c, k)) 0 := by
  rw [unscopedSems0_eq, bigSep_cells]; rfl

/-- Each device's semaphores open their rounds. -/
theorem core_alloc (c : Dev nD) :
    iprop(own₀ c ∗ unscopedSems0 c ∗ G m c)
      ⊢ |={Set.univ}=> (iprop((bigSep Finset.univ fun k => iprop(∃ κ : ℕ, cellInv ER (Rd m) κ (cellAt (c, k))))
          ∗ (bigSep Finset.univ fun k => iprop(atPos ER (cellAt (c, k)) 0 ∅ 0 ∗ reached ER (cellAt (c, k)) 0)) ∗ toks c) : sProp 𝕄) := by
  have open_all : iprop((bigSep Finset.univ fun k : CI => semVal (cellAt (c, k)) 0)
        ∗ bigSep Finset.univ fun k : CI => roundState ER (Rd m) (cellAt (c, k)) 0)
      ⊢ (|={Set.univ}=> bigSep Finset.univ fun k => iprop(∃ κ : ℕ, cellInv ER (Rd m) κ (cellAt (c, k))) : sProp 𝕄) := by
    rw [← bigSep_sep']
    exact (bigSep_mono fun k _ => (Rounds.body_intro ER (Rd m) (cellAt (c, k))).trans inv_alloc).trans (bigSep_fupd _ _)
  unfold G
  iintro ⟨Hos, Hus, Hst, Hat, Htok⟩
  ihave Hv := (Entails.of_eq (sems0_eq c)) $$ [Hos Hus]
  · iframe Hos Hus
  imod open_all $$ [Hv Hst] with Hinv
  · iframe Hv Hst
  imodintro
  iframe Hinv Hat Htok

/-- What every device knows of the semaphores. -/
def recs (K : Dev nD × CI → ℕ) : sProp 𝕄 :=
  bigSep Finset.univ fun p : Dev nD × CI => iprop(cellInv ER (Rd m) (K p) (cellAt p) ∗ reached ER (cellAt p) 0)

instance recs_persistent (K : Dev nD × CI → ℕ) : BI.Persistent (recs (F := F) m K) := by unfold recs; infer_instance

/-- What is device `c`'s alone: its positions and the tokens of its contributions. -/
def mine (c : Dev nD) : sProp 𝕄 :=
  iprop((bigSep Finset.univ fun k : CI => atPos ER (cellAt (c, k)) 0 ∅ 0) ∗ payToks c)

/-- What the opened rounds give device `c`. -/
def G' (c : Dev nD) : sProp 𝕄 := iprop(∃ K, recs m K ∗ mine c)

theorem regroup :
    (bigSep Finset.univ fun c : Dev nD => iprop((bigSep Finset.univ fun k => iprop(∃ κ : ℕ, cellInv ER (Rd m) κ (cellAt (c, k))))
          ∗ (bigSep Finset.univ fun k => iprop(atPos ER (cellAt (c, k)) 0 ∅ 0 ∗ reached ER (cellAt (c, k)) 0)) ∗ toks c) : sProp 𝕄)
      ⊢ bigSep Finset.univ (G' m) := by
  have give (K : Dev nD × CI → ℕ) (c : Dev nD) : iprop(recs m K ∗ mine c) ⊢ G' m c := by
    unfold G'
    iintro H
    iexists K; iexact H
  rw [bigSep_sep', bigSep_sep', toks_around, ← bigSep_univ_prod (fun p : Dev nD × CI => iprop(∃ κ : ℕ, cellInv ER (Rd m) κ (cellAt p))),
    bigSep_congr (s := Finset.univ) (fun (c : Dev nD) _ => bigSep_sep' Finset.univ (fun k : CI => (atPos ER (cellAt (c, k)) 0 ∅ 0 : sProp 𝕄))
      (fun k => reached ER (cellAt (c, k)) 0)),
    bigSep_sep', ← bigSep_univ_prod (fun p : Dev nD × CI => (reached ER (cellAt p) 0 : sProp 𝕄))]
  iintro ⟨HI, ⟨Hat, HR⟩, Htok⟩
  ihave HK := (BI.bigSep_exists_pi Finset.univ (fun (p : Dev nD × CI) (κ : ℕ) => (cellInv ER (Rd m) κ (cellAt p) : sProp 𝕄))) $$ HI
  icases HK with ⟨%K, HI⟩
  iapply (bigSep_with (recs m K) fun c => give K c)
  isplitl [HI HR]
  · unfold recs; rw [bigSep_sep']
    iframe HI HR
  · unfold mine; rw [bigSep_sep']
    iframe Hat Htok

/-- All devices' semaphores at once. -/
theorem glob : (bigSep Finset.univ fun c => iprop(own₀ c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device starts with -/

theorem semIn_eq (c : Dev nD) (l : Lane) (e : LSem) : (semIn c l e : sProp 𝕄) = iprop(pos c l e ∗ payTok c l e ∗ crdIn c l e) := by
  cases e <;> rfl

theorem mine_intro (c : Dev nD) :
    iprop(mine c ∗ (bigSep Finset.univ fun l : Lane => bigSep Finset.univ fun e : LSem => crdIn c l e)
        ∗ cred (tallyAt (barCell c) () 2))
      ⊢ (iprop((bigSep Finset.univ fun l : Lane => bigSep Finset.univ fun e : LSem => semIn c l e) ∗ barIn c) : sProp 𝕄) := by
  unfold mine payToks barIn
  rw [bigSep_cells]
  rw [← bigSep_univ_prod (fun q : Lane × LSem => crdIn (F := F) c q.1 q.2), ← bigSep_univ_prod (fun q : Lane × LSem => semIn (F := F) c q.1 q.2),
    bigSep_congr fun (q : Lane × LSem) _ => semIn_eq c q.1 q.2, bigSep_sep', bigSep_sep']
  iintro ⟨⟨⟨Hp, Hb⟩, ⟨Ht0, Ht1⟩, Ht⟩, Hc, Hcb⟩
  isplitl [Hp Ht Hc]
  · isplitl [Hp]; · iexact Hp
    iframe Ht Hc
  iframe Ht0 Ht1 Hcb
  iexact Hb

end Cert.Mesh

end

end
-- ==== Proof.Launch.lean ====
module

public import proofs.«01_k».proof.Proof.Body
public import proofs.«01_k».proof.Proof.Fund
public import Idealize.ShloMosaic.Lib.Pipeline.CollectiveSegs

/-! # The run

From any memory with every semaphore at zero the four devices terminate; the input is unchanged, every piece of every
device's result is the total, and every semaphore is back at zero. -/

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory the devices start from. -/
abbrev s₀ : MemSt nD τ sig (Elt F) := ⟨m, fun _ => 0, ρ⟩

/-- The input of device `c`, whole and unchanged. -/
abbrev input (c : Dev nD) : sProp 𝕄 := (c : Thread nD τ).loc main_arg0 ↦{fullShare} m ((c : Thread nD τ).loc main_arg0)

/-- What device `c` starts with besides its scratch buffers. -/
def start (c : Dev nD) : sProp 𝕄 :=
  iprop((∃ K, ctx m K) ∗ ((bigSep Finset.univ fun l : Lane => bigSep Finset.univ fun e : LSem => semIn c l e) ∗ barIn c)
    ∗ input m c ∗ held c main_v1)

/-- What it ends with. -/
def finish (c : Dev nD) : sProp 𝕄 :=
  iprop(scratch c ∗ (bigSep Finset.univ fun l : Lane => bigSep Finset.univ fun e : LSem => fin c l e)
    ∗ semVal (barCell c) 0 ∗ input m c ∗ outDone m c)

def dats (_ : Fin 1) (c : Dev nD) : Dat τ (Elt F) Unit ℕ UU ℕ cfg0 c where
  A w := w.elim0
  after w _ := w.elim0
  Φ t := match t with
    | ⟨0, _⟩ => iprop(start m c ∗ scratch c)
    | ⟨_ + 1, _⟩ => finish m c
  q _ := fullShare
  owed t := match t with
    | ⟨0, _⟩ => O₂ c
    | ⟨_ + 1, _⟩ => 0

/-! ## A device -/

theorem wpc_deviceId (c : Dev nD) (p : Dev nD → Prog (TpuEff nD τ sig (Elt F) Λ₀ .tc) PUnit) (Q : PUnit → sProp 𝕄) :
    wpc c (.op .deviceId p) Q = wpc c (p c) Q := by
  unfold wpc; rw [wp_deviceId]

theorem body_printed : (defs₀ (F := F)) .tc cfg0.body (cfg0.bodyArgs t0_0 (cfg0.slots t0_0)) = printed := rfl

theorem lanesIn_eq (c : Dev nD) : (bigSep Finset.univ fun l : Lane => laneIn m c l : sProp 𝕄)
    = iprop((bigSep Finset.univ fun l : Lane => bigSep Finset.univ fun s : Fin 4 => chunkIn m c l s)
      ∗ bigSep Finset.univ fun l : Lane => bigSep Finset.univ fun e : LSem => semIn c l e) := by
  unfold laneIn; rw [bigSep_sep']

theorem lanesOut_eq (c : Dev nD) : (bigSep Finset.univ fun l : Lane => laneOut m c l : sProp 𝕄)
    = iprop((bigSep Finset.univ fun l : Lane => bigSep Finset.univ fun s : Fin 4 => chunkOut m c l s)
      ∗ (bigSep Finset.univ fun l : Lane => bigSep Finset.univ fun s : Fin 3 => anyC c l.1 s l.2)
      ∗ bigSep Finset.univ fun l : Lane => bigSep Finset.univ fun e : LSem => fin c l e) := by
  unfold laneOut; rw [bigSep_sep', bigSep_sep']

theorem device (c : Dev nD) (W : Waits sig Unit) (Q : PUnit → sProp 𝕄) :
    iprop(start m c ∗ scratch c ∗ owes (c : Thread nD τ) (O₂ c) W
        ∗ (∀ W' : Waits sig Unit, owes (c : Thread nD τ) 0 W' -∗ finish m c -∗ Q ⟨⟩))
      ⊢ wpc c (printed (F := F)) Q := by
  rw [printed_devProg, wpc_deviceId]
  unfold start
  iintro ⟨⟨⟨%K, #Hctx⟩, ⟨Hs, Hb⟩, Hx, Ho⟩, Hscr, HO, Hk⟩
  ihave ⟨Hch, Hc0, Hc1⟩ := (bufs_in m c) $$ [Hscr Hx Ho]
  · iframe Hscr Hx Ho
  iapply (dev_run m K c W Q)
  iframe Hctx Hc0 Hc1 Hb HO
  isplitl [Hch Hs]
  · rw [lanesIn_eq]
    iframe Hch Hs
  iintro %W' HO Hl Hz
  ihave ⟨Hch, Hcm, Hf⟩ := (Entails.of_eq (lanesOut_eq m c)) $$ Hl
  ihave ⟨Hscr, Hx, Ho⟩ := (bufs_out m c) $$ [Hch Hcm]
  · iframe Hch Hcm
  iapply Hk $$ %W' HO
  unfold finish
  iframe Hscr Hf Hz Hx Ho

theorem no_windows (Φ : Fin cfg0.W → sProp 𝕄) : bigSep Finset.univ Φ = (BI.emp : sProp 𝕄) := bigSep_empty

theorem owesAt_zero (c : Dev nD) : (dats m 0 c).owesAt () t0_0.castSucc
    ⊢ (iprop(∃ W : Waits sig Unit, owes (c : Thread nD τ) (O₂ c) W) : sProp 𝕄) := by
  unfold Dat.owesAt Pipeline.owesWithin
  rw [show (dats m 0 c).owed t0_0.castSucc = O₂ c from rfl]
  iintro ⟨%W, -, HO⟩
  iexists W; iexact HO

theorem owesAt_one (c : Dev nD) (W : Waits sig Unit) : (owes (c : Thread nD τ) 0 W : sProp 𝕄) ⊢ (dats m 0 c).owesAt () t0_0.succ := by
  unfold Dat.owesAt Pipeline.owesWithin
  rw [show (dats m 0 c).owed t0_0.succ = 0 from rfl]
  iintro HO
  iexists W
  isplitr; · (ipureintro; exact fun _ _ => Or.inl trivial)
  iexact HO

theorem inv_zero (c : Dev nD) : (dats m 0 c).Φ t0_0.castSucc = iprop(start m c ∗ scratch c) := rfl
theorem inv_one (c : Dev nD) : (dats m 0 c).Φ t0_0.succ = finish m c := rfl

/-- The run of a device as the launch asks for it. -/
theorem device_point (c : Dev nD) :
    iprop((start m c ∗ scratch c) ∗ (dats m 0 c).owesAt () t0_0.castSucc ∗ BI.emp)
      ⊢ wpc c (printed (F := F)) fun _ => iprop(finish m c ∗ (dats m 0 c).owesAt () t0_0.succ ∗ BI.emp) := by
  iintro ⟨⟨Hst, Hscr⟩, HO, -⟩
  ihave ⟨%W, HO⟩ := (owesAt_zero m c) $$ HO
  iapply (device m c W _)
  iframe Hst Hscr HO
  iintro %W' HO Hf
  iframe Hf
  isplitl
  · iapply (owesAt_one m c W'); iexact HO
  · iempintro

theorem body_obligation (c : Dev nD) :
    Pipeline.BodyObligationLoose (dats (F := F) m 0 c) (defs₀ (F := F)) 𝒱₀ () Set.univ := fun t => by
  rw [fin_N0 t, no_windows, no_windows, body_printed, inv_zero, inv_one]
  have h := device_point m c
  unfold wpc at h
  convert h using 5

/-! ## The launch's conditions -/

theorem ownSemFacts : Pipeline.OwnSemFacts cfg0.spec osem where
  isScoped q := by
    have h : ∀ q : Lane × LSem, (osem q).isScoped .tc = true := by decide +kernel
    exact h q
  inj := fun q q' h => semOf_bijective.1 (by unfold osem at h; injection h)
  disj := fun _ w => w.elim0

def u₀ : UU := (initOf (Pipeline.cells cfgs cellOf_inj) (Pipeline.launchToks cfgs cellOf_inj), initOf cells cellToks)

theorem start_intro (c : Dev nD) :
    iprop(Pipeline.unscopedRestP Pipeline.Prefetch.none cfg0.spec c (fun b => m ((c : Thread nD τ).loc b)) ∗ levAts L lv
        ∗ Pipeline.launchCred O₂ c ∗ prngReg c (ρ c) ∗ G' m c)
      ⊢ |={Set.univ}=> (iprop(start m c ∗ emp) : sProp 𝕄) := by
  rw [Pipeline.unscopedRestP_none, unscopedRest0_eq]
  unfold G' start
  iintro ⟨⟨Hx, Ho⟩, Hlev, Hcr, -, ⟨%K, Hr, Hm⟩⟩
  ihave ⟨Hcl, Hcb⟩ := (creds c) $$ Hcr
  ihave Hs := (mine_intro c) $$ [Hm Hcl Hcb]
  · iframe Hm Hcl Hcb
  imodintro
  isplitl
  · isplitl [Hr Hlev]
    · iexists K
      unfold recs ctx
      iframe Hr Hlev
    isplitl [Hs]; · iexact Hs
    isplitl [Hx]; · iexact Hx
    iexists _; iexact Ho
  · iempintro

theorem begin_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = iprop(start m c ∗ scratch c) from rfl, scopedRest0_eq]
  iintro ⟨Hs, -, Hr⟩
  isplitl [Hs]; · iexact Hs
  iexact Hr

/-- What the run leaves to read off at the end. -/
def left (c : Dev nD) : sProp 𝕄 := iprop(unscopedSems0 c ∗ input m c ∗ outDone m c)

theorem finish_exit (c : Dev nD) :
    (dats (F := F) m 0 c).Φ (Fin.last cfg0.N) ⊢ iprop(left m c ∗ Pipeline.ownSems0 osem c ∗ Pipeline.scopedRest cfg0.spec c) := by
  rw [show (dats (F := F) m 0 c).Φ (Fin.last cfg0.N) = finish m c from rfl, scopedRest0_eq]
  unfold finish left
  rw [unscopedSems0_eq, ← bigSep_univ_prod (fun q : Lane × LSem => fin (F := F) c q.1 q.2)]
  iintro ⟨Hr, Hf, Hz, Hx, Ho⟩
  isplitl [Hz Hx Ho]
  · iframe Hz Hx Ho
  isplitl [Hf]
  · unfold Pipeline.ownSems0; iexact Hf
  iexact Hr

theorem waits (c : Dev nD) : (levAts L lv : sProp 𝕄) ⊢ Pipeline.cellsWaits cfgs (dats m) () 0 c :=
  Pipeline.cellsWaits_intro cfgs (dats m) () 0 c fun w => w.elim0

/-! ## The run -/

/-- What a final state holds of device `c`. -/
def Good (c : Dev nD) (s : MemSt nD τ sig (Elt F)) : Prop :=
  s.mem ((c : Thread nD τ).loc main_arg0) = m ((c : Thread nD τ).loc main_arg0)
    ∧ ∀ (d : Fin 2) (X k : Fin 4) (j : S128x2048.Idx),
        (s.mem ((c : Thread nD τ).loc main_v1) : (main_v1 : Ref sig .tc).ty.Contents (Elt F)) ((rectV d X k).emb j) = tot m d X k j

/-- A buffer held whole is what the final memory has. -/
theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr; · (ipureintro; exact h () (Finset.mem_singleton_self _))
  iexact H

theorem read_left (c : Dev nD) (s' : Phys nD τ sig (Elt F)) :
    (iprop(left m c ∗ emp ∗ SI s') : sProp 𝕄)
      ⊢ |={Set.univ}=> iprop(⌜(∀ sm : SemLoc sig, sm.isScoped .tc = false → s'.mem.sem ((c.tc : Thread nD τ), sm) = 0)
          ∧ Good m c s'.mem⌝ ∗ SI s') := by
  unfold left outDone
  iintro ⟨⟨Hu, Hx, ⟨%f, %hf, Ho⟩⟩, -, HSI⟩
  ihave ⟨%hx, HSI⟩ := (read_one _ _ s') $$ [Hx HSI]
  · iframe Hx HSI
  ihave ⟨%ho, HSI⟩ := (read_one _ f s') $$ [Ho HSI]
  · iframe Ho HSI
  imod (Pipeline.unscopedSems0_read (X := unscopedSems0 c) (c := c) fupd_intro s') $$ [Hu HSI] with ⟨%hs, HSI⟩
  · iframe Hu HSI
  imodintro
  isplitr
  · ipureintro
    exact ⟨hs, hx, fun d X k j => by rw [ho]; exact hf d X k j⟩
  iexact HSI

set_option maxRecDepth 8000 in
/-- The four devices run to the end, whatever the floats. -/
theorem run_main : θ_run defs (onTc (τ := τ) (main (F := F))) (s₀ m ρ) (fun r => (∀ c, Good m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₂) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      imod (fund_cells m) $$ HX with HG
      imodintro
      iframe HP HG)
    (hglob := glob m)
    (hA := fun _ w => w.elim0) (hpf := fun _ k => k.elim0)
    (X := start m) (Y := left m) (Z := fun _ => iprop(emp))
    (hX := start_intro m ρ) (hin := begin_intro m) (hout := finish_exit m)
    (QY := fun c s => (∀ sm : SemLoc sig, sm.isScoped .tc = false → s.sem ((c.tc : Thread nD τ), sm) = 0) ∧ Good m c s)
    (hY := read_left m)
    (hQ := fun _ h hs => ⟨fun c => (h c).2.2.2, sem_eq_zero hs fun c => (h c).2.2.1⟩)

end Cert.Mesh

end

end
-- ==== Proof.Value.lean ====
module

public import proofs.«01_k».proof.Proof.Values
public import proofs.«01_k».proof.Proof.Rects
public import proofs.«01_k».proof.Proof.Gen.ReferenceIdeal.Run
public import Idealize.ShloMosaic.Lib.Pointwise.Reduce
public import Idealize.ShloMosaic.Lib.IdealHost
public import Idealize.ShloMosaic.Lib.Layout

/-! # The two values agree

With the extended reals as floats a rounding changes nothing, so the total of a piece is the sum of the four devices'
inputs there, taken in the order the piece visits the devices. The reference sums the same four numbers in the order of
the devices. Addition of extended reals commutes and associates without exception, so the two agree on every input. -/

@[expose] public section

noncomputable section

namespace Cert.Mesh

open Cert.KernelIdeal Cert.KernelIdeal.Gen
open Idealize.ShloMosaic Idealize.ShloMosaic.TcCoe
open Idealize.SL.Sem

/-! ## Where a piece of the input is read -/

/-- The index of a device's input that entry `i` of the result is summed from. -/
def under (i : S4096x2048.Idx) : S1x4096x2048.Idx := ix3 (0 : Fin 1) (i 0) (i 1)

section
variable {F : FTy → Type} [FloatOps F]
variable (m : (ℓ : Loc nD τ sig) → Buf (Elt F) ℓ)

omit [FloatOps F] in
/-- Entry `j` of a piece of the input lies under the entry of the result where the piece's total goes. -/
theorem xblk_apply (c : Dev nD) (d : Fin 2) (X k : Fin 4) (j : S128x2048.Idx) :
    xblk m c d X k j = (xin m c : S1x4096x2048.Idx → F .f32) (under ((rectV d X k).emb j)) := by
  have h : xblk m c d X k = shapeCast S128x2048
      ((fun i => (xin m c : S1x4096x2048.Idx → F .f32) ((rectX d X k).emb i)) : FVec F S1x128x2048 .f32)
      shapeCasts_S1x128x2048_S128x2048 := rfl
  rw [h]
  refine (shapeCast_dropUnit_apply (n := 2) ![128, 2048] _ _ j).trans ?_
  refine congrArg (xin m c : S1x4096x2048.Idx → F .f32) ?_
  funext a
  match a with
  | ⟨0, _⟩ => rfl
  | ⟨1, _⟩ => rfl
  | ⟨2, _⟩ => rfl

/-- A chunk visits each device once. -/
theorem dv_bijective (d : Fin 2) (X : Fin 4) : Function.Bijective fun j : Fin 4 => (dv d X j.val : Fin 4) := by
  revert d X; decide

end

/-! ## The kernel's value over the extended reals -/

section
variable (m : (ℓ : Loc nD τ sig) → Buf (Elt Ideal) ℓ)

/-- The input of device `c`, as extended reals. -/
def xreal (c : Dev nD) : S1x4096x2048.Idx → EReal := xin m c

/-- The total of a piece is the sum over the devices. -/
theorem tot_ideal (d : Fin 2) (X k : Fin 4) (j : S128x2048.Idx) :
    (tot m d X k j : EReal)
      = ∑ c : Fin 4, xreal m c (under ((rectV d X k).emb j)) := by
  rw [← (dv_bijective d X).sum_comp fun c => xreal m c (under ((rectV d X k).emb j)),
    Fin.sum_univ_four]
  have h : (tot m d X k j : EReal)
      = (xblk m (dv d X 3) d X k j : EReal)
        + ((xblk m (dv d X 2) d X k j : EReal) + ((xblk m (dv d X 1) d X k j : EReal) + (xblk m (dv d X 0) d X k j : EReal))) := rfl
  rw [h, xblk_apply, xblk_apply, xblk_apply, xblk_apply]
  show xreal m (dv d X 3) _ + (xreal m (dv d X 2) _ + (xreal m (dv d X 1) _ + xreal m (dv d X 0) _)) = _
  rw [add_comm (xreal m (dv d X 1) _), add_comm (xreal m (dv d X 2) _), add_comm (xreal m (dv d X 3) _)]
  rfl

/-- The sum of the devices' inputs. -/
def total : S4096x2048.Idx → EReal := fun i => ∑ c : Fin 4, xreal m c (under i)

/-- A result that has every piece's total is the sum of the inputs. -/
theorem eq_total (v : S4096x2048.Idx → EReal)
    (h : ∀ (d : Fin 2) (X k : Fin 4) (j : S128x2048.Idx), v ((rectV d X k).emb j) = tot m d X k j) : v = total m := by
  funext i
  have hi : i ∈ Finset.univ.biUnion (fun p : Lane × Fin 4 => (rectV p.1.1 p.2 p.1.2).set) := by
    rw [rectV_cover]; exact Finset.mem_univ i
  obtain ⟨p, -, hp⟩ := Finset.mem_biUnion.mp hi
  obtain ⟨j, rfl⟩ := (rectV p.1.1 p.2 p.1.2).toLoadRect.exists_idx_of_mem hp
  exact (h p.1.1 p.2 p.1.2 j).trans (tot_ideal m _ _ _ j)

end

/-! ## The reference's value -/

/-- The reference's result as a function of its argument. -/
def refVal (A : FVec Ideal Cert.ReferenceIdeal.S4x4096x2048 .f32) : FVec Ideal Cert.ReferenceIdeal.S4096x2048 .bf16 :=
  truncf .bf16 (Host.reduceAdd A (constant Cert.ReferenceIdeal.S_ .f32 0x00000000#32)
    Cert.ReferenceIdeal.Gen.reducesTo_S4x4096x2048_S4096x2048_d0 Cert.ReferenceIdeal.Gen.h_S_)
    Cert.ReferenceIdeal.Gen.bitsLt_bf16_f32

theorem refVal_apply (A : FVec Ideal Cert.ReferenceIdeal.S4x4096x2048 .f32) (i : S4096x2048.Idx) :
    (refVal A i : EReal) = ∑ c : Fin 4, (A (ix3 c (i 0) (i 1)) : EReal) := by
  have h : (refVal A i : EReal) = Ideal.hostReduceAdd Cert.ReferenceIdeal.Gen.reducesTo_S4x4096x2048_S4096x2048_d0 A
      (Ideal.ofBits .f32 0x00000000#32) i := rfl
  rw [h, Ideal.hostReduceAdd_r3_a0, Ideal.ofBits_zero_f32, zero_add]
  rfl

/-- With the argument's block `c` on device `c`, the sum of the devices' inputs is the reference's result. -/
theorem total_eq_refVal (m : (ℓ : Loc nD τ sig) → Buf (Elt Ideal) ℓ) (A : FVec Ideal Cert.ReferenceIdeal.S4x4096x2048 .f32)
    (h : ∀ c : Dev nD, xin m c = Layout.block ⟨3, ![1, 4096, 2048]⟩ ⟨3, ![4, 4096, 2048]⟩ 0 4 c A) :
    total m = refVal A := by
  funext i
  rw [refVal_apply]
  refine Finset.sum_congr rfl fun c _ => ?_
  unfold xreal
  rw [h c]
  refine congrArg A ?_
  funext a
  match a with
  | ⟨0, _⟩ => exact Fin.ext (by show c.val * 1 + 0 = c.val; omega)
  | ⟨1, _⟩ => rfl
  | ⟨2, _⟩ => rfl

end Cert.Mesh

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The frames -/

/-- The kernel on bits ends with its argument unchanged and its semaphores at zero. -/
theorem frame_kernel : Cert.quiescent_Kernel (hKernel := Cert.Kernel.Gen.facts) := fun m ρ _ =>
  (θ_run Cert.KernelIdeal.defs _ _).mono (fun _ h => ⟨fun c => (h.1 c).1, h.2⟩) (Cert.Mesh.run_main (F := Bits) m ρ)

/-- So does the kernel on extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Cert.Mesh.run_main (F := Ideal) m ρ)

/-- The reference declares no semaphore, so its run has only the argument to keep. -/
theorem frame_referenceIdeal : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

/-! ## The value -/

/-- Every device's result is the whole of the reference's result. -/
theorem value : Cert.algebraic_KernelIdeal_ReferenceIdeal (hKernelIdeal := Cert.KernelIdeal.Gen.facts)
    (hReferenceIdeal := Cert.ReferenceIdeal.Gen.facts) := by
  intro m ρ m' ρ' _ hm
  refine ⟨Cert.Mesh.refVal (m' ((0 : Dev Cert.ReferenceIdeal.nD).tc.loc Cert.ReferenceIdeal.main_arg0)), ?_, ?_⟩
  · refine (θ_run Cert.KernelIdeal.defs _ _).mono (fun _ h c => ⟨?_, (h.1 c).1⟩) (Cert.Mesh.run_main (F := Ideal) m ρ)
    exact (Cert.Mesh.eq_total m _ (h.1 c).2).trans (Cert.Mesh.total_eq_refVal m _ hm)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
